-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x36E38E39#32 ((147456⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x384x384 : Shape := ⟨4, ![2, 96, 384, 384]⟩
abbrev S6x96 : Shape := ⟨2, ![6, 96]⟩
abbrev S96x6 : Shape := ⟨2, ![96, 6]⟩
abbrev S96x96 : Shape := ⟨2, ![96, 96]⟩
abbrev S96 : Shape := ⟨1, ![96]⟩
abbrev S_ : Shape := ⟨0, ![]⟩
abbrev S2x96x1x384 : Shape := ⟨4, ![2, 96, 1, 384]⟩
abbrev S2x96x5x384 : Shape := ⟨4, ![2, 96, 5, 384]⟩
abbrev S2x96x6x384 : Shape := ⟨4, ![2, 96, 6, 384]⟩
abbrev S2x6x96x384 : Shape := ⟨4, ![2, 6, 96, 384]⟩
abbrev S1x96 : Shape := ⟨2, ![1, 96]⟩
abbrev S2x1x96 : Shape := ⟨3, ![2, 1, 96]⟩
abbrev S2x1x96x64x384 : Shape := ⟨5, ![2, 1, 96, 64, 384]⟩
abbrev S2 : Shape := ⟨1, ![2]⟩
abbrev S1 : Shape := ⟨1, ![1]⟩
abbrev S1x1x96x64x384 : Shape := ⟨5, ![1, 1, 96, 64, 384]⟩
abbrev S1x96x64x384 : Shape := ⟨4, ![1, 96, 64, 384]⟩
abbrev S96x64x384 : Shape := ⟨3, ![96, 64, 384]⟩
abbrev S1x1x96 : Shape := ⟨3, ![1, 1, 96]⟩
abbrev S2x96 : Shape := ⟨2, ![2, 96]⟩
abbrev S2x6 : Shape := ⟨2, ![2, 6]⟩
abbrev S2x1x1x96x384 : Shape := ⟨5, ![2, 1, 1, 96, 384]⟩
abbrev S1x1x1x96x384 : Shape := ⟨5, ![1, 1, 1, 96, 384]⟩
abbrev S1x1x96x384 : Shape := ⟨4, ![1, 1, 96, 384]⟩
abbrev S96x24576 : Shape := ⟨2, ![96, 24576]⟩
abbrev S1x64x384 : Shape := ⟨3, ![1, 64, 384]⟩
abbrev S1x24576 : Shape := ⟨2, ![1, 24576]⟩
abbrev S96x384 : Shape := ⟨2, ![96, 384]⟩
abbrev S1x384 : Shape := ⟨2, ![1, 384]⟩
abbrev S96x24192 : Shape := ⟨2, ![96, 24192]⟩
abbrev S96x1 : Shape := ⟨2, ![96, 1]⟩
abbrev S96x24575 : Shape := ⟨2, ![96, 24575]⟩

abbrev nBuf : Space → Nat
  | .hbm => 14
  | .vmem => 9
  | .smem => 0
  | _ => 0

abbrev bufTy : (tb : Table) → Fin (tcTables nBuf tb) → BufTy
  | .hbm, ⟨0, _⟩ => ⟨S2x96x384x384, .f32⟩
  | .hbm, ⟨1, _⟩ => ⟨S6x96, .f32⟩
  | .hbm, ⟨2, _⟩ => ⟨S96x6, .f32⟩
  | .hbm, ⟨3, _⟩ => ⟨S96x96, .f32⟩
  | .hbm, ⟨4, _⟩ => ⟨S96, .f32⟩
  | .hbm, ⟨5, _⟩ => ⟨S_, .f32⟩
  | .hbm, ⟨6, _⟩ => ⟨S2x96x1x384, .f32⟩
  | .hbm, ⟨7, _⟩ => ⟨S2x96x5x384, .f32⟩
  | .hbm, ⟨8, _⟩ => ⟨S2x96x6x384, .f32⟩
  | .hbm, ⟨9, _⟩ => ⟨S2x6x96x384, .f32⟩
  | .hbm, ⟨10, _⟩ => ⟨S96x6, .f32⟩
  | .hbm, ⟨11, _⟩ => ⟨S6x96, .f32⟩
  | .hbm, ⟨12, _⟩ => ⟨S1x96, .f32⟩
  | .hbm, ⟨13, _⟩ => ⟨S2x96x384x384, .f32⟩
  | .local _ .vmem, ⟨0, _⟩ => ⟨S96x6, .f32⟩
  | .local _ .vmem, ⟨1, _⟩ => ⟨S6x96, .f32⟩
  | .local _ .vmem, ⟨2, _⟩ => ⟨S96x96, .f32⟩
  | .local _ .vmem, ⟨3, _⟩ => ⟨S1x96, .f32⟩
  | .local _ .vmem, ⟨4, _⟩ => ⟨S2x1x96, .f32⟩
  | .local _ .vmem, ⟨5, _⟩ => ⟨S2x1x96x64x384, .f32⟩
  | .local _ .vmem, ⟨6, _⟩ => ⟨S2x1x96x64x384, .f32⟩
  | .local _ .vmem, ⟨7, _⟩ => ⟨S2x1x1x96x384, .f32⟩
  | .local _ .vmem, ⟨8, _⟩ => ⟨S2x1x96x64x384, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_scoped6 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 : Fin 1 → Nat :=
  let c0_i32_36_r0 : BitVec 32 := 0#32
  let c2_i32_37_r0 : BitVec 32 := 2#32
  let v44_r0 : BitVec 32 := Scalar.remui c0_i32_36_r0 c2_i32_37_r0
  ![v44_r0.toNat]
def k0_off2 : Fin 5 → Nat :=
  let c0_i32_36_r0 : BitVec 32 := 0#32
  let c2_i32_37_r0 : BitVec 32 := 2#32
  let v44_r0 : BitVec 32 := Scalar.remui c0_i32_36_r0 c2_i32_37_r0
  let c0_i32_38_r0 : BitVec 32 := 0#32
  let c0_i32_39_r0 : BitVec 32 := 0#32
  let c0_i32_40_r0 : BitVec 32 := 0#32
  let c0_i32_41_r0 : BitVec 32 := 0#32
  ![v44_r0.toNat, 0, 0, 0, 0]
@[reducible] def k0_t1_loop : Scf.Loop 32 :=
  let c0_i32_51_r0 : BitVec 32 := 0#32
  let c12_i32_r0 : BitVec 32 := 12#32
  let v51_r0 : BitVec 32 := Scalar.addi c0_i32_51_r0 c12_i32_r0
  let c1_i32_52_r0 : BitVec 32 := 1#32
  ⟨c0_i32_51_r0, v51_r0, c1_i32_52_r0⟩
def k0_off3 (arg9_r0 : BitVec 32) : Fin 1 → Nat :=
  let c2_i32_154_r0 : BitVec 32 := 2#32
  let v189_r0 : BitVec 32 := Scalar.remui arg9_r0 c2_i32_154_r0
  ![v189_r0.toNat]
def k0_cond1 (k0_t1 : Fin k0_t1_loop.trips) (arg11_r0 : BitVec 32) (arg12_r0 : BitVec 32) : BitVec 1 :=
  let c0_i32_91_r0 : BitVec 32 := 0#32
  let v95_r0 : BitVec 32 := Scalar.addi arg11_r0 c0_i32_91_r0
  let true_103_r0 : BitVec 1 := 1#1
  let c1_i32_102_r0 : BitVec 32 := 1#32
  let v107_r0 : BitVec 32 := Scalar.addi arg12_r0 c1_i32_102_r0
  let v108_r0 : BitVec 32 := Scalar.select true_103_r0 v107_r0 arg12_r0
  let c6_i32_104_r0 : BitVec 32 := 6#32
  let v109_r0 : BitVec 1 := Scalar.cmpi .eq v108_r0 c6_i32_104_r0
  let c1_i32_106_r0 : BitVec 32 := 1#32
  let v111_r0 : BitVec 32 := Scalar.addi arg11_r0 c1_i32_106_r0
  let v112_r0 : BitVec 32 := Scalar.select v109_r0 v111_r0 arg11_r0
  let c2_i32_107_r0 : BitVec 32 := 2#32
  let v113_r0 : BitVec 1 := Scalar.cmpi .eq v112_r0 c2_i32_107_r0
  let c0_i32_108_r0 : BitVec 32 := 0#32
  let v114_r0 : BitVec 32 := Scalar.select v113_r0 c0_i32_108_r0 v112_r0
  let c0_i32_109_r0 : BitVec 32 := 0#32
  let v115_r0 : BitVec 32 := Scalar.addi v114_r0 c0_i32_109_r0
  let v127_r0 : BitVec 1 := Scalar.cmpi .ne v95_r0 v115_r0
  let c0_i32_92_r0 : BitVec 32 := 0#32
  let v96_r0 : BitVec 32 := Scalar.addi arg12_r0 c0_i32_92_r0
  let c0_i32_105_r0 : BitVec 32 := 0#32
  let v110_r0 : BitVec 32 := Scalar.select v109_r0 c0_i32_105_r0 v108_r0
  let c0_i32_110_r0 : BitVec 32 := 0#32
  let v116_r0 : BitVec 32 := Scalar.addi v110_r0 c0_i32_110_r0
  let v128_r0 : BitVec 1 := Scalar.cmpi .ne v96_r0 v116_r0
  let v129_r0 : BitVec 1 := Scalar.ori v127_r0 v128_r0
  let c0_i32_51_r0 : BitVec 32 := 0#32
  let c1_i32_52_r0 : BitVec 32 := 1#32
  let arg8_r0 : BitVec 32 := Scf.iv c0_i32_51_r0 c1_i32_52_r0 k0_t1
  let c11_i32_120_r0 : BitVec 32 := 11#32
  let v130_r0 : BitVec 1 := Scalar.cmpi .sge arg8_r0 c11_i32_120_r0
  let true_121_r0 : BitVec 1 := 1#1
  let v131_r0 : BitVec 1 := Scalar.xori v130_r0 true_121_r0
  let v132_r0 : BitVec 1 := Scalar.andi v129_r0 v131_r0
  let true_122_r0 : BitVec 1 := 1#1
  let v133_r0 : BitVec 1 := Scalar.andi v132_r0 true_122_r0
  let v134_r0 : BitVec 32 := Scalar.extui v133_r0
  let c0_i32_123_r0 : BitVec 32 := 0#32
  let v135_r0 : BitVec 1 := Scalar.cmpi .ne v134_r0 c0_i32_123_r0
  v135_r0

def k0_off4 (arg9_r0 : BitVec 32) : Fin 5 → Nat :=
  let c2_i32_154_r0 : BitVec 32 := 2#32
  let v189_r0 : BitVec 32 := Scalar.remui arg9_r0 c2_i32_154_r0
  let c0_i32_156_r0 : BitVec 32 := 0#32
  let c0_i32_157_r0 : BitVec 32 := 0#32
  let c0_i32_158_r0 : BitVec 32 := 0#32
  let c0_i32_159_r0 : BitVec 32 := 0#32
  ![v189_r0.toNat, 0, 0, 0, 0]
def k0_off5 (arg11_r0 : BitVec 32) (arg12_r0 : BitVec 32) : Fin 4 → Nat :=
  let c1_i32_155_r0 : BitVec 32 := 1#32
  let true_103_r0 : BitVec 1 := 1#1
  let c1_i32_102_r0 : BitVec 32 := 1#32
  let v107_r0 : BitVec 32 := Scalar.addi arg12_r0 c1_i32_102_r0
  let v108_r0 : BitVec 32 := Scalar.select true_103_r0 v107_r0 arg12_r0
  let c6_i32_104_r0 : BitVec 32 := 6#32
  let v109_r0 : BitVec 1 := Scalar.cmpi .eq v108_r0 c6_i32_104_r0
  let c1_i32_106_r0 : BitVec 32 := 1#32
  let v111_r0 : BitVec 32 := Scalar.addi arg11_r0 c1_i32_106_r0
  let v112_r0 : BitVec 32 := Scalar.select v109_r0 v111_r0 arg11_r0
  let c2_i32_107_r0 : BitVec 32 := 2#32
  let v113_r0 : BitVec 1 := Scalar.cmpi .eq v112_r0 c2_i32_107_r0
  let c0_i32_108_r0 : BitVec 32 := 0#32
  let v114_r0 : BitVec 32 := Scalar.select v113_r0 c0_i32_108_r0 v112_r0
  let c0_i32_109_r0 : BitVec 32 := 0#32
  let v115_r0 : BitVec 32 := Scalar.addi v114_r0 c0_i32_109_r0
  let v190_r0 : BitVec 32 := Scalar.muli c1_i32_155_r0 v115_r0
  let c0_i32_160_r0 : BitVec 32 := 0#32
  let c64_i32_r0 : BitVec 32 := 64#32
  let c0_i32_105_r0 : BitVec 32 := 0#32
  let v110_r0 : BitVec 32 := Scalar.select v109_r0 c0_i32_105_r0 v108_r0
  let c0_i32_110_r0 : BitVec 32 := 0#32
  let v116_r0 : BitVec 32 := Scalar.addi v110_r0 c0_i32_110_r0
  let v191_r0 : BitVec 32 := Scalar.muli c64_i32_r0 v116_r0
  let c0_i32_161_r0 : BitVec 32 := 0#32
  ![v190_r0.toNat, 0, v191_r0.toNat, 0]
def k0_off6 (arg10_r0 : BitVec 32) : Fin 1 → Nat :=
  let c2_i32_155_r0 : BitVec 32 := 2#32
  let v191_r0 : BitVec 32 := Scalar.remui arg10_r0 c2_i32_155_r0
  ![v191_r0.toNat]
def k0_cond2 (k0_t1 : Fin k0_t1_loop.trips) (arg11_r0 : BitVec 32) (arg12_r0 : BitVec 32) : BitVec 1 :=
  let c0_i32_91_r0 : BitVec 32 := 0#32
  let v95_r0 : BitVec 32 := Scalar.addi arg11_r0 c0_i32_91_r0
  let true_94_r0 : BitVec 1 := 1#1
  let c1_i32_93_r0 : BitVec 32 := 1#32
  let v97_r0 : BitVec 32 := Scalar.subi arg12_r0 c1_i32_93_r0
  let v98_r0 : BitVec 32 := Scalar.select true_94_r0 v97_r0 arg12_r0
  let c_m1_i32_95_r0 : BitVec 32 := 4294967295#32
  let v99_r0 : BitVec 1 := Scalar.cmpi .eq v98_r0 c_m1_i32_95_r0
  let c1_i32_97_r0 : BitVec 32 := 1#32
  let v101_r0 : BitVec 32 := Scalar.subi arg11_r0 c1_i32_97_r0
  let v102_r0 : BitVec 32 := Scalar.select v99_r0 v101_r0 arg11_r0
  let c_m1_i32_98_r0 : BitVec 32 := 4294967295#32
  let v103_r0 : BitVec 1 := Scalar.cmpi .eq v102_r0 c_m1_i32_98_r0
  let c1_i32_99_r0 : BitVec 32 := 1#32
  let v104_r0 : BitVec 32 := Scalar.select v103_r0 c1_i32_99_r0 v102_r0
  let c0_i32_100_r0 : BitVec 32 := 0#32
  let v105_r0 : BitVec 32 := Scalar.addi v104_r0 c0_i32_100_r0
  let v139_r0 : BitVec 1 := Scalar.cmpi .ne v95_r0 v105_r0
  let c0_i32_92_r0 : BitVec 32 := 0#32
  let v96_r0 : BitVec 32 := Scalar.addi arg12_r0 c0_i32_92_r0
  let c5_i32_96_r0 : BitVec 32 := 5#32
  let v100_r0 : BitVec 32 := Scalar.select v99_r0 c5_i32_96_r0 v98_r0
  let c0_i32_101_r0 : BitVec 32 := 0#32
  let v106_r0 : BitVec 32 := Scalar.addi v100_r0 c0_i32_101_r0
  let v140_r0 : BitVec 1 := Scalar.cmpi .ne v96_r0 v106_r0
  let v141_r0 : BitVec 1 := Scalar.ori v139_r0 v140_r0
  let c0_i32_51_r0 : BitVec 32 := 0#32
  let c1_i32_52_r0 : BitVec 32 := 1#32
  let arg8_r0 : BitVec 32 := Scf.iv c0_i32_51_r0 c1_i32_52_r0 k0_t1
  let c0_i32_90_r0 : BitVec 32 := 0#32
  let v93_r0 : BitVec 1 := Scalar.cmpi .eq arg8_r0 c0_i32_90_r0
  let v142_r0 : BitVec 1 := Scalar.ori v141_r0 v93_r0
  let c0_i32_126_r0 : BitVec 32 := 0#32
  let v143_r0 : BitVec 1 := Scalar.cmpi .sge arg8_r0 c0_i32_126_r0
  let v144_r0 : BitVec 1 := Scalar.andi v142_r0 v143_r0
  let v145_r0 : BitVec 32 := Scalar.extui v144_r0
  let c0_i32_127_r0 : BitVec 32 := 0#32
  let v146_r0 : BitVec 1 := Scalar.cmpi .ne v145_r0 c0_i32_127_r0
  v146_r0

def k0_off7 (arg10_r0 : BitVec 32) : Fin 5 → Nat :=
  let c2_i32_155_r0 : BitVec 32 := 2#32
  let v191_r0 : BitVec 32 := Scalar.remui arg10_r0 c2_i32_155_r0
  let c0_i32_156_r0 : BitVec 32 := 0#32
  let c0_i32_157_r0 : BitVec 32 := 0#32
  let c0_i32_158_r0 : BitVec 32 := 0#32
  let c0_i32_159_r0 : BitVec 32 := 0#32
  ![v191_r0.toNat, 0, 0, 0, 0]
def k0_off8 (arg11_r0 : BitVec 32) (arg12_r0 : BitVec 32) : Fin 4 → Nat :=
  let c1_i32_154_r0 : BitVec 32 := 1#32
  let c0_i32_91_r0 : BitVec 32 := 0#32
  let v95_r0 : BitVec 32 := Scalar.addi arg11_r0 c0_i32_91_r0
  let v189_r0 : BitVec 32 := Scalar.muli c1_i32_154_r0 v95_r0
  let c0_i32_160_r0 : BitVec 32 := 0#32
  let c64_i32_r0 : BitVec 32 := 64#32
  let c0_i32_92_r0 : BitVec 32 := 0#32
  let v96_r0 : BitVec 32 := Scalar.addi arg12_r0 c0_i32_92_r0
  let v190_r0 : BitVec 32 := Scalar.muli c64_i32_r0 v96_r0
  let c0_i32_161_r0 : BitVec 32 := 0#32
  ![v189_r0.toNat, 0, v190_r0.toNat, 0]
def k0_off9 (arg10_r0 : BitVec 32) : Fin 5 → Nat :=
  let c2_i32_128_r0 : BitVec 32 := 2#32
  let v147_r0 : BitVec 32 := Scalar.remui arg10_r0 c2_i32_128_r0
  let c0_i32_129_r0 : BitVec 32 := 0#32
  let c0_i32_130_r0 : BitVec 32 := 0#32
  let c0_i32_131_r0 : BitVec 32 := 0#32
  let c0_i32_132_r0 : BitVec 32 := 0#32
  ![v147_r0.toNat, 0, 0, 0, 0]

def k0_chk2 (arg10_r0 : BitVec 32) : Prop :=
  (∀ a, (k0_off9 arg10_r0) a + S1x1x96x64x384.size a ≤ S2x1x96x64x384.size a)
theorem k0_off9_inb : ∀ (arg10_r0 : BitVec 32) (k0_hw2 : k0_chk2 arg10_r0), ∀ a, (k0_off9 arg10_r0) a + S1x1x96x64x384.size a ≤ S2x1x96x64x384.size a := fun arg10_r0 k0_hw2 => k0_hw2

def k0_off10 (arg11_r0 : BitVec 32) : Fin 3 → Nat :=
  let c0_i32_91_r0 : BitVec 32 := 0#32
  let v95_r0 : BitVec 32 := Scalar.addi arg11_r0 c0_i32_91_r0
  let v189_r0 : Index := Scalar.indexCast v95_r0
  let c0_154_r0 : Index := 0#32
  let c0_155_r0 : Index := 0#32
  ![v189_r0.toNat, 0, 0]
def k0_cond3 (arg12_r0 : BitVec 32) : BitVec 1 :=
  let c0_i32_92_r0 : BitVec 32 := 0#32
  let v96_r0 : BitVec 32 := Scalar.addi arg12_r0 c0_i32_92_r0
  let c0_i32_138_r0 : BitVec 32 := 0#32
  let v154_r0 : BitVec 1 := Scalar.cmpi .eq v96_r0 c0_i32_138_r0
  let v155_r0 : BitVec 32 := Scalar.extui v154_r0
  let c0_i32_139_r0 : BitVec 32 := 0#32
  let v156_r0 : BitVec 1 := Scalar.cmpi .ne v155_r0 c0_i32_139_r0
  v156_r0

def k0_off11 (arg11_r0 : BitVec 32) : Fin 3 → Nat :=
  let c0_i32_91_r0 : BitVec 32 := 0#32
  let v95_r0 : BitVec 32 := Scalar.addi arg11_r0 c0_i32_91_r0
  let v189_r0 : Index := Scalar.indexCast v95_r0
  let c0_154_r0 : Index := 0#32
  let c0_155_r0 : Index := 0#32
  ![v189_r0.toNat, 0, 0]
def k0_cond4 (arg12_r0 : BitVec 32) : BitVec 1 :=
  let c0_i32_92_r0 : BitVec 32 := 0#32
  let v96_r0 : BitVec 32 := Scalar.addi arg12_r0 c0_i32_92_r0
  let c0_i32_140_r0 : BitVec 32 := 0#32
  let v157_r0 : BitVec 1 := Scalar.cmpi .sgt v96_r0 c0_i32_140_r0
  let v158_r0 : BitVec 32 := Scalar.extui v157_r0
  let c0_i32_141_r0 : BitVec 32 := 0#32
  let v159_r0 : BitVec 1 := Scalar.cmpi .ne v158_r0 c0_i32_141_r0
  v159_r0

def k0_chk1 (k0_t1 : Fin k0_t1_loop.trips) (arg9_r0 : BitVec 32) (arg10_r0 : BitVec 32) (arg11_r0 : BitVec 32) (arg12_r0 : BitVec 32) : Prop :=
  (∀ (k0_h1 : k0_cond1 k0_t1 arg11_r0 arg12_r0 = 1#1), ∀ a, (k0_off3 arg9_r0) a + S1.size a ≤ S2.size a) ∧
  (∀ (k0_h1 : k0_cond1 k0_t1 arg11_r0 arg12_r0 = 1#1), ∀ a, (k0_off4 arg9_r0) a + S1x1x96x64x384.size a ≤ S2x1x96x64x384.size a) ∧
  (∀ (k0_h1 : k0_cond1 k0_t1 arg11_r0 arg12_r0 = 1#1), ∀ a, (k0_off5 arg11_r0 arg12_r0) a + S1x96x64x384.size a ≤ S2x96x384x384.size a) ∧
  (∀ (k0_h2 : k0_cond2 k0_t1 arg11_r0 arg12_r0 = 1#1), ∀ a, (k0_off6 arg10_r0) a + S1.size a ≤ S2.size a) ∧
  (∀ (k0_h2 : k0_cond2 k0_t1 arg11_r0 arg12_r0 = 1#1), ∀ a, (k0_off7 arg10_r0) a + S1x1x96x64x384.size a ≤ S2x1x96x64x384.size a) ∧
  (∀ (k0_h2 : k0_cond2 k0_t1 arg11_r0 arg12_r0 = 1#1), ∀ a, (k0_off8 arg11_r0 arg12_r0) a + S1x96x64x384.size a ≤ S2x96x384x384.size a) ∧
  (∀ (k0_h3 : k0_cond3 arg12_r0 = 1#1), ∀ a, (k0_off10 arg11_r0) a + S1x1x96.size a ≤ S2x1x96.size a) ∧
  (∀ (k0_h4 : k0_cond4 arg12_r0 = 1#1), ∀ a, (k0_off11 arg11_r0) a + S1x1x96.size a ≤ S2x1x96.size a)
theorem k0_off3_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h1 : k0_cond1 k0_t1 arg11_r0 arg12_r0 = 1#1), ∀ a, (k0_off3 arg9_r0) a + S1.size a ≤ S2.size a := fun k0_t1 arg9_r0 arg10_r0 arg11_r0 arg12_r0 k0_hw1 k0_h1 => k0_hw1.1 k0_h1
theorem k0_off4_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h1 : k0_cond1 k0_t1 arg11_r0 arg12_r0 = 1#1), ∀ a, (k0_off4 arg9_r0) a + S1x1x96x64x384.size a ≤ S2x1x96x64x384.size a := fun k0_t1 arg9_r0 arg10_r0 arg11_r0 arg12_r0 k0_hw1 k0_h1 => k0_hw1.2.1 k0_h1
theorem k0_off5_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h1 : k0_cond1 k0_t1 arg11_r0 arg12_r0 = 1#1), ∀ a, (k0_off5 arg11_r0 arg12_r0) a + S1x96x64x384.size a ≤ S2x96x384x384.size a := fun k0_t1 arg9_r0 arg10_r0 arg11_r0 arg12_r0 k0_hw1 k0_h1 => k0_hw1.2.2.1 k0_h1
theorem k0_off6_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h2 : k0_cond2 k0_t1 arg11_r0 arg12_r0 = 1#1), ∀ a, (k0_off6 arg10_r0) a + S1.size a ≤ S2.size a := fun k0_t1 arg9_r0 arg10_r0 arg11_r0 arg12_r0 k0_hw1 k0_h2 => k0_hw1.2.2.2.1 k0_h2
theorem k0_off7_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h2 : k0_cond2 k0_t1 arg11_r0 arg12_r0 = 1#1), ∀ a, (k0_off7 arg10_r0) a + S1x1x96x64x384.size a ≤ S2x1x96x64x384.size a := fun k0_t1 arg9_r0 arg10_r0 arg11_r0 arg12_r0 k0_hw1 k0_h2 => k0_hw1.2.2.2.2.1 k0_h2
theorem k0_off8_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h2 : k0_cond2 k0_t1 arg11_r0 arg12_r0 = 1#1), ∀ a, (k0_off8 arg11_r0 arg12_r0) a + S1x96x64x384.size a ≤ S2x96x384x384.size a := fun k0_t1 arg9_r0 arg10_r0 arg11_r0 arg12_r0 k0_hw1 k0_h2 => k0_hw1.2.2.2.2.2.1 k0_h2
theorem k0_off10_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h3 : k0_cond3 arg12_r0 = 1#1), ∀ a, (k0_off10 arg11_r0) a + S1x1x96.size a ≤ S2x1x96.size a := fun k0_t1 arg9_r0 arg10_r0 arg11_r0 arg12_r0 k0_hw1 k0_h3 => k0_hw1.2.2.2.2.2.2.1 k0_h3
theorem k0_off11_inb : ∀ (k0_t1 : Fin k0_t1_loop.trips) (arg9_r0 : BitVec 32) (arg10_r0 : BitVec 32) (arg11_r0 : BitVec 32) (arg12_r0 : BitVec 32) (k0_hw1 : k0_chk1 k0_t1 arg9_r0 arg10_r0 arg11_r0 arg12_r0), ∀ (k0_h4 : k0_cond4 arg12_r0 = 1#1), ∀ a, (k0_off11 arg11_r0) a + S1x1x96.size a ≤ S2x1x96.size a := fun k0_t1 arg9_r0 arg10_r0 arg11_r0 arg12_r0 k0_hw1 k0_h4 => k0_hw1.2.2.2.2.2.2.2 k0_h4

def k0_off12 : Fin 5 → Nat :=
  let c0_i32_50_r1 : BitVec 32 := 0#32
  let c2_i32_51_r1 : BitVec 32 := 2#32
  let v53_r1 : BitVec 32 := Scalar.remui c0_i32_50_r1 c2_i32_51_r1
  let c0_i32_52_r1 : BitVec 32 := 0#32
  let c0_i32_53_r1 : BitVec 32 := 0#32
  let c0_i32_54_r1 : BitVec 32 := 0#32
  let c0_i32_55_r1 : BitVec 32 := 0#32
  ![v53_r1.toNat, 0, 0, 0, 0]
@[reducible] def k0_t2_loop : Scf.Loop 32 :=
  let c0_i32_68_r1 : BitVec 32 := 0#32
  let c12_i32_r1 : BitVec 32 := 12#32
  let v60_r1 : BitVec 32 := Scalar.addi c0_i32_68_r1 c12_i32_r1
  let c1_i32_69_r1 : BitVec 32 := 1#32
  ⟨c0_i32_68_r1, v60_r1, c1_i32_69_r1⟩
def k0_off13 (arg9_r1 : BitVec 32) : Fin 1 → Nat :=
  let c2_i32_234_r1 : BitVec 32 := 2#32
  let v348_r1 : BitVec 32 := Scalar.remui arg9_r1 c2_i32_234_r1
  ![v348_r1.toNat]
def k0_cond7 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_128_r1 : BitVec 1 := 1#1
  let c1_i32_127_r1 : BitVec 32 := 1#32
  let v124_r1 : BitVec 32 := Scalar.addi arg16_r1 c1_i32_127_r1
  let v125_r1 : BitVec 32 := Scalar.select true_128_r1 v124_r1 arg16_r1
  let c6_i32_129_r1 : BitVec 32 := 6#32
  let v126_r1 : BitVec 1 := Scalar.cmpi .eq v125_r1 c6_i32_129_r1
  let c1_i32_131_r1 : BitVec 32 := 1#32
  let v128_r1 : BitVec 32 := Scalar.addi arg15_r1 c1_i32_131_r1
  let v129_r1 : BitVec 32 := Scalar.select v126_r1 v128_r1 arg15_r1
  let c2_i32_132_r1 : BitVec 32 := 2#32
  let v130_r1 : BitVec 1 := Scalar.cmpi .eq v129_r1 c2_i32_132_r1
  let c0_i32_133_r1 : BitVec 32 := 0#32
  let v131_r1 : BitVec 32 := Scalar.select v130_r1 c0_i32_133_r1 v129_r1
  let c0_i32_134_r1 : BitVec 32 := 0#32
  let v132_r1 : BitVec 32 := Scalar.addi v131_r1 c0_i32_134_r1
  let v144_r1 : BitVec 1 := Scalar.cmpi .ne v112_r1 v132_r1
  let c0_i32_117_r1 : BitVec 32 := 0#32
  let v113_r1 : BitVec 32 := Scalar.addi arg16_r1 c0_i32_117_r1
  let c0_i32_130_r1 : BitVec 32 := 0#32
  let v127_r1 : BitVec 32 := Scalar.select v126_r1 c0_i32_130_r1 v125_r1
  let c0_i32_135_r1 : BitVec 32 := 0#32
  let v133_r1 : BitVec 32 := Scalar.addi v127_r1 c0_i32_135_r1
  let v145_r1 : BitVec 1 := Scalar.cmpi .ne v113_r1 v133_r1
  let v146_r1 : BitVec 1 := Scalar.ori v144_r1 v145_r1
  let c0_i32_68_r1 : BitVec 32 := 0#32
  let c1_i32_69_r1 : BitVec 32 := 1#32
  let arg8_r1 : BitVec 32 := Scf.iv c0_i32_68_r1 c1_i32_69_r1 k0_t2
  let c11_i32_145_r1 : BitVec 32 := 11#32
  let v147_r1 : BitVec 1 := Scalar.cmpi .sge arg8_r1 c11_i32_145_r1
  let true_146_r1 : BitVec 1 := 1#1
  let v148_r1 : BitVec 1 := Scalar.xori v147_r1 true_146_r1
  let v149_r1 : BitVec 1 := Scalar.andi v146_r1 v148_r1
  let true_147_r1 : BitVec 1 := 1#1
  let v150_r1 : BitVec 1 := Scalar.andi v149_r1 true_147_r1
  let v151_r1 : BitVec 32 := Scalar.extui v150_r1
  let c0_i32_148_r1 : BitVec 32 := 0#32
  let v152_r1 : BitVec 1 := Scalar.cmpi .ne v151_r1 c0_i32_148_r1
  v152_r1

def k0_off14 (arg9_r1 : BitVec 32) : Fin 5 → Nat :=
  let c2_i32_234_r1 : BitVec 32 := 2#32
  let v348_r1 : BitVec 32 := Scalar.remui arg9_r1 c2_i32_234_r1
  let c0_i32_237_r1 : BitVec 32 := 0#32
  let c0_i32_238_r1 : BitVec 32 := 0#32
  let c0_i32_239_r1 : BitVec 32 := 0#32
  let c0_i32_240_r1 : BitVec 32 := 0#32
  ![v348_r1.toNat, 0, 0, 0, 0]
def k0_off15 (arg15_r1 : BitVec 32) (arg16_r1 : BitVec 32) : Fin 4 → Nat :=
  let c1_i32_235_r1 : BitVec 32 := 1#32
  let true_128_r1 : BitVec 1 := 1#1
  let c1_i32_127_r1 : BitVec 32 := 1#32
  let v124_r1 : BitVec 32 := Scalar.addi arg16_r1 c1_i32_127_r1
  let v125_r1 : BitVec 32 := Scalar.select true_128_r1 v124_r1 arg16_r1
  let c6_i32_129_r1 : BitVec 32 := 6#32
  let v126_r1 : BitVec 1 := Scalar.cmpi .eq v125_r1 c6_i32_129_r1
  let c1_i32_131_r1 : BitVec 32 := 1#32
  let v128_r1 : BitVec 32 := Scalar.addi arg15_r1 c1_i32_131_r1
  let v129_r1 : BitVec 32 := Scalar.select v126_r1 v128_r1 arg15_r1
  let c2_i32_132_r1 : BitVec 32 := 2#32
  let v130_r1 : BitVec 1 := Scalar.cmpi .eq v129_r1 c2_i32_132_r1
  let c0_i32_133_r1 : BitVec 32 := 0#32
  let v131_r1 : BitVec 32 := Scalar.select v130_r1 c0_i32_133_r1 v129_r1
  let c0_i32_134_r1 : BitVec 32 := 0#32
  let v132_r1 : BitVec 32 := Scalar.addi v131_r1 c0_i32_134_r1
  let v349_r1 : BitVec 32 := Scalar.muli c1_i32_235_r1 v132_r1
  let c0_i32_241_r1 : BitVec 32 := 0#32
  let c64_i32_236_r1 : BitVec 32 := 64#32
  let c0_i32_130_r1 : BitVec 32 := 0#32
  let v127_r1 : BitVec 32 := Scalar.select v126_r1 c0_i32_130_r1 v125_r1
  let c0_i32_135_r1 : BitVec 32 := 0#32
  let v133_r1 : BitVec 32 := Scalar.addi v127_r1 c0_i32_135_r1
  let v350_r1 : BitVec 32 := Scalar.muli c64_i32_236_r1 v133_r1
  let c0_i32_242_r1 : BitVec 32 := 0#32
  ![v349_r1.toNat, 0, v350_r1.toNat, 0]
def k0_off16 (arg11_r1 : BitVec 32) : Fin 1 → Nat :=
  let c2_i32_234_r1 : BitVec 32 := 2#32
  let v348_r1 : BitVec 32 := Scalar.remui arg11_r1 c2_i32_234_r1
  ![v348_r1.toNat]
def k0_cond8 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_128_r1 : BitVec 1 := 1#1
  let c1_i32_127_r1 : BitVec 32 := 1#32
  let v124_r1 : BitVec 32 := Scalar.addi arg16_r1 c1_i32_127_r1
  let v125_r1 : BitVec 32 := Scalar.select true_128_r1 v124_r1 arg16_r1
  let c6_i32_129_r1 : BitVec 32 := 6#32
  let v126_r1 : BitVec 1 := Scalar.cmpi .eq v125_r1 c6_i32_129_r1
  let c1_i32_131_r1 : BitVec 32 := 1#32
  let v128_r1 : BitVec 32 := Scalar.addi arg15_r1 c1_i32_131_r1
  let v129_r1 : BitVec 32 := Scalar.select v126_r1 v128_r1 arg15_r1
  let c2_i32_132_r1 : BitVec 32 := 2#32
  let v130_r1 : BitVec 1 := Scalar.cmpi .eq v129_r1 c2_i32_132_r1
  let c0_i32_133_r1 : BitVec 32 := 0#32
  let v131_r1 : BitVec 32 := Scalar.select v130_r1 c0_i32_133_r1 v129_r1
  let c0_i32_134_r1 : BitVec 32 := 0#32
  let v132_r1 : BitVec 32 := Scalar.addi v131_r1 c0_i32_134_r1
  let v156_r1 : BitVec 1 := Scalar.cmpi .ne v112_r1 v132_r1
  let c0_i32_117_r1 : BitVec 32 := 0#32
  let v113_r1 : BitVec 32 := Scalar.addi arg16_r1 c0_i32_117_r1
  let c0_i32_130_r1 : BitVec 32 := 0#32
  let v127_r1 : BitVec 32 := Scalar.select v126_r1 c0_i32_130_r1 v125_r1
  let c0_i32_135_r1 : BitVec 32 := 0#32
  let v133_r1 : BitVec 32 := Scalar.addi v127_r1 c0_i32_135_r1
  let v157_r1 : BitVec 1 := Scalar.cmpi .ne v113_r1 v133_r1
  let v158_r1 : BitVec 1 := Scalar.ori v156_r1 v157_r1
  let c0_i32_68_r1 : BitVec 32 := 0#32
  let c1_i32_69_r1 : BitVec 32 := 1#32
  let arg8_r1 : BitVec 32 := Scf.iv c0_i32_68_r1 c1_i32_69_r1 k0_t2
  let c11_i32_151_r1 : BitVec 32 := 11#32
  let v159_r1 : BitVec 1 := Scalar.cmpi .sge arg8_r1 c11_i32_151_r1
  let true_152_r1 : BitVec 1 := 1#1
  let v160_r1 : BitVec 1 := Scalar.xori v159_r1 true_152_r1
  let v161_r1 : BitVec 1 := Scalar.andi v158_r1 v160_r1
  let true_153_r1 : BitVec 1 := 1#1
  let v162_r1 : BitVec 1 := Scalar.andi v161_r1 true_153_r1
  let v163_r1 : BitVec 32 := Scalar.extui v162_r1
  let c0_i32_154_r1 : BitVec 32 := 0#32
  let v164_r1 : BitVec 1 := Scalar.cmpi .ne v163_r1 c0_i32_154_r1
  v164_r1

def k0_off17 (arg11_r1 : BitVec 32) : Fin 5 → Nat :=
  let c2_i32_234_r1 : BitVec 32 := 2#32
  let v348_r1 : BitVec 32 := Scalar.remui arg11_r1 c2_i32_234_r1
  let c0_i32_237_r1 : BitVec 32 := 0#32
  let c0_i32_238_r1 : BitVec 32 := 0#32
  let c0_i32_239_r1 : BitVec 32 := 0#32
  let c0_i32_240_r1 : BitVec 32 := 0#32
  ![v348_r1.toNat, 0, 0, 0, 0]
def k0_off18 (arg15_r1 : BitVec 32) (arg16_r1 : BitVec 32) : Fin 4 → Nat :=
  let c1_i32_235_r1 : BitVec 32 := 1#32
  let true_128_r1 : BitVec 1 := 1#1
  let c1_i32_127_r1 : BitVec 32 := 1#32
  let v124_r1 : BitVec 32 := Scalar.addi arg16_r1 c1_i32_127_r1
  let v125_r1 : BitVec 32 := Scalar.select true_128_r1 v124_r1 arg16_r1
  let c6_i32_129_r1 : BitVec 32 := 6#32
  let v126_r1 : BitVec 1 := Scalar.cmpi .eq v125_r1 c6_i32_129_r1
  let c1_i32_131_r1 : BitVec 32 := 1#32
  let v128_r1 : BitVec 32 := Scalar.addi arg15_r1 c1_i32_131_r1
  let v129_r1 : BitVec 32 := Scalar.select v126_r1 v128_r1 arg15_r1
  let c2_i32_132_r1 : BitVec 32 := 2#32
  let v130_r1 : BitVec 1 := Scalar.cmpi .eq v129_r1 c2_i32_132_r1
  let c0_i32_133_r1 : BitVec 32 := 0#32
  let v131_r1 : BitVec 32 := Scalar.select v130_r1 c0_i32_133_r1 v129_r1
  let c0_i32_134_r1 : BitVec 32 := 0#32
  let v132_r1 : BitVec 32 := Scalar.addi v131_r1 c0_i32_134_r1
  let v349_r1 : BitVec 32 := Scalar.muli c1_i32_235_r1 v132_r1
  let c1_i32_236_r1 : BitVec 32 := 1#32
  let c0_i32_130_r1 : BitVec 32 := 0#32
  let v127_r1 : BitVec 32 := Scalar.select v126_r1 c0_i32_130_r1 v125_r1
  let c0_i32_135_r1 : BitVec 32 := 0#32
  let v133_r1 : BitVec 32 := Scalar.addi v127_r1 c0_i32_135_r1
  let v350_r1 : BitVec 32 := Scalar.muli c1_i32_236_r1 v133_r1
  let c0_i32_241_r1 : BitVec 32 := 0#32
  let c0_i32_242_r1 : BitVec 32 := 0#32
  ![v349_r1.toNat, v350_r1.toNat, 0, 0]
def k0_off19 (arg10_r1 : BitVec 32) : Fin 1 → Nat :=
  let c2_i32_236_r1 : BitVec 32 := 2#32
  let v350_r1 : BitVec 32 := Scalar.remui arg10_r1 c2_i32_236_r1
  ![v350_r1.toNat]
def k0_cond9 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_119_r1 : BitVec 1 := 1#1
  let c1_i32_118_r1 : BitVec 32 := 1#32
  let v114_r1 : BitVec 32 := Scalar.subi arg16_r1 c1_i32_118_r1
  let v115_r1 : BitVec 32 := Scalar.select true_119_r1 v114_r1 arg16_r1
  let c_m1_i32_120_r1 : BitVec 32 := 4294967295#32
  let v116_r1 : BitVec 1 := Scalar.cmpi .eq v115_r1 c_m1_i32_120_r1
  let c1_i32_122_r1 : BitVec 32 := 1#32
  let v118_r1 : BitVec 32 := Scalar.subi arg15_r1 c1_i32_122_r1
  let v119_r1 : BitVec 32 := Scalar.select v116_r1 v118_r1 arg15_r1
  let c_m1_i32_123_r1 : BitVec 32 := 4294967295#32
  let v120_r1 : BitVec 1 := Scalar.cmpi .eq v119_r1 c_m1_i32_123_r1
  let c1_i32_124_r1 : BitVec 32 := 1#32
  let v121_r1 : BitVec 32 := Scalar.select v120_r1 c1_i32_124_r1 v119_r1
  let c0_i32_125_r1 : BitVec 32 := 0#32
  let v122_r1 : BitVec 32 := Scalar.addi v121_r1 c0_i32_125_r1
  let v174_r1 : BitVec 1 := Scalar.cmpi .ne v112_r1 v122_r1
  let c0_i32_117_r1 : BitVec 32 := 0#32
  let v113_r1 : BitVec 32 := Scalar.addi arg16_r1 c0_i32_117_r1
  let c5_i32_121_r1 : BitVec 32 := 5#32
  let v117_r1 : BitVec 32 := Scalar.select v116_r1 c5_i32_121_r1 v115_r1
  let c0_i32_126_r1 : BitVec 32 := 0#32
  let v123_r1 : BitVec 32 := Scalar.addi v117_r1 c0_i32_126_r1
  let v175_r1 : BitVec 1 := Scalar.cmpi .ne v113_r1 v123_r1
  let v176_r1 : BitVec 1 := Scalar.ori v174_r1 v175_r1
  let c0_i32_68_r1 : BitVec 32 := 0#32
  let c1_i32_69_r1 : BitVec 32 := 1#32
  let arg8_r1 : BitVec 32 := Scf.iv c0_i32_68_r1 c1_i32_69_r1 k0_t2
  let c0_i32_115_r1 : BitVec 32 := 0#32
  let v110_r1 : BitVec 1 := Scalar.cmpi .eq arg8_r1 c0_i32_115_r1
  let v177_r1 : BitVec 1 := Scalar.ori v176_r1 v110_r1
  let c0_i32_159_r1 : BitVec 32 := 0#32
  let v178_r1 : BitVec 1 := Scalar.cmpi .sge arg8_r1 c0_i32_159_r1
  let v179_r1 : BitVec 1 := Scalar.andi v177_r1 v178_r1
  let v180_r1 : BitVec 32 := Scalar.extui v179_r1
  let c0_i32_160_r1 : BitVec 32 := 0#32
  let v181_r1 : BitVec 1 := Scalar.cmpi .ne v180_r1 c0_i32_160_r1
  v181_r1

def k0_off20 (arg10_r1 : BitVec 32) : Fin 5 → Nat :=
  let c2_i32_236_r1 : BitVec 32 := 2#32
  let v350_r1 : BitVec 32 := Scalar.remui arg10_r1 c2_i32_236_r1
  let c0_i32_237_r1 : BitVec 32 := 0#32
  let c0_i32_238_r1 : BitVec 32 := 0#32
  let c0_i32_239_r1 : BitVec 32 := 0#32
  let c0_i32_240_r1 : BitVec 32 := 0#32
  ![v350_r1.toNat, 0, 0, 0, 0]
def k0_off21 (arg15_r1 : BitVec 32) (arg16_r1 : BitVec 32) : Fin 4 → Nat :=
  let c1_i32_234_r1 : BitVec 32 := 1#32
  let c0_i32_116_r1 : BitVec 32 := 0#32
  let v112_r1 : BitVec 32 := Scalar.addi arg15_r1 c0_i32_116_r1
  let v348_r1 : BitVec 32 := Scalar.muli c1_i32_234_r1 v112_r1
  let c0_i32_241_r1 : BitVec 32 := 0#32
  let c64_i32_235_r1 : BitVec 32 := 64#32
  let c0_i32_117_r1 : BitVec 32 := 0#32
  let v113_r1 : BitVec 32 := Scalar.addi arg16_r1 c0_i32_117_r1
  let v349_r1 : BitVec 32 := Scalar.muli c64_i32_235_r1 v113_r1
  let c0_i32_242_r1 : BitVec 32 := 0#32
  ![v348_r1.toNat, 0, v349_r1.toNat, 0]
def k0_off22 (arg12_r1 : BitVec 32) : Fin 1 → Nat :=
  let c2_i32_236_r1 : BitVec 32 := 2#32
  let v350_r1 : BitVec 32 := Scalar.remui arg12_r1 c2_i32_236_r1
  ![v350_r1.toNat]
def k0_cond10 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_119_r1 : BitVec 1 := 1#1
  let c1_i32_118_r1 : BitVec 32 := 1#32
  let v114_r1 : BitVec 32 := Scalar.subi arg16_r1 c1_i32_118_r1
  let v115_r1 : BitVec 32 := Scalar.select true_119_r1 v114_r1 arg16_r1
  let c_m1_i32_120_r1 : BitVec 32 := 4294967295#32
  let v116_r1 : BitVec 1 := Scalar.cmpi .eq v115_r1 c_m1_i32_120_r1
  let c1_i32_122_r1 : BitVec 32 := 1#32
  let v118_r1 : BitVec 32 := Scalar.subi arg15_r1 c1_i32_122_r1
  let v119_r1 : BitVec 32 := Scalar.select v116_r1 v118_r1 arg15_r1
  let c_m1_i32_123_r1 : BitVec 32 := 4294967295#32
  let v120_r1 : BitVec 1 := Scalar.cmpi .eq v119_r1 c_m1_i32_123_r1
  let c1_i32_124_r1 : BitVec 32 := 1#32
  let v121_r1 : BitVec 32 := Scalar.select v120_r1 c1_i32_124_r1 v119_r1
  let c0_i32_125_r1 : BitVec 32 := 0#32
  let v122_r1 : BitVec 32 := Scalar.addi v121_r1 c0_i32_125_r1
  let v182_r1 : BitVec 1 := Scalar.cmpi .ne v112_r1 v122_r1
  let c0_i32_117_r1 : BitVec 32 := 0#32
  let v113_r1 : BitVec 32 := Scalar.addi arg16_r1 c0_i32_117_r1
  let c5_i32_121_r1 : BitVec 32 := 5#32
  let v117_r1 : BitVec 32 := Scalar.select v116_r1 c5_i32_121_r1 v115_r1
  let c0_i32_126_r1 : BitVec 32 := 0#32
  let v123_r1 : BitVec 32 := Scalar.addi v117_r1 c0_i32_126_r1
  let v183_r1 : BitVec 1 := Scalar.cmpi .ne v113_r1 v123_r1
  let v184_r1 : BitVec 1 := Scalar.ori v182_r1 v183_r1
  let c0_i32_68_r1 : BitVec 32 := 0#32
  let c1_i32_69_r1 : BitVec 32 := 1#32
  let arg8_r1 : BitVec 32 := Scf.iv c0_i32_68_r1 c1_i32_69_r1 k0_t2
  let c0_i32_115_r1 : BitVec 32 := 0#32
  let v110_r1 : BitVec 1 := Scalar.cmpi .eq arg8_r1 c0_i32_115_r1
  let v185_r1 : BitVec 1 := Scalar.ori v184_r1 v110_r1
  let c0_i32_161_r1 : BitVec 32 := 0#32
  let v186_r1 : BitVec 1 := Scalar.cmpi .sge arg8_r1 c0_i32_161_r1
  let v187_r1 : BitVec 1 := Scalar.andi v185_r1 v186_r1
  let v188_r1 : BitVec 32 := Scalar.extui v187_r1
  let c0_i32_162_r1 : BitVec 32 := 0#32
  let v189_r1 : BitVec 1 := Scalar.cmpi .ne v188_r1 c0_i32_162_r1
  v189_r1

def k0_off23 (arg12_r1 : BitVec 32) : Fin 5 → Nat :=
  let c2_i32_236_r1 : BitVec 32 := 2#32
  let v350_r1 : BitVec 32 := Scalar.remui arg12_r1 c2_i32_236_r1
  let c0_i32_237_r1 : BitVec 32 := 0#32
  let c0_i32_238_r1 : BitVec 32 := 0#32
  let c0_i32_239_r1 : BitVec 32 := 0#32
  let c0_i32_240_r1 : BitVec 32 := 0#32
  ![v350_r1.toNat, 0, 0, 0, 0]
def k0_off24 (arg15_r1 : BitVec 32) (arg16_r1 : BitVec 32) : Fin 4 → Nat :=
  let c1_i32_234_r1 : BitVec 32 := 1#32
  let c0_i32_116_r1 : BitVec 32 := 0#32
  let v112_r1 : BitVec 32 := Scalar.addi arg15_r1 c0_i32_116_r1
  let v348_r1 : BitVec 32 := Scalar.muli c1_i32_234_r1 v112_r1
  let c1_i32_235_r1 : BitVec 32 := 1#32
  let c0_i32_117_r1 : BitVec 32 := 0#32
  let v113_r1 : BitVec 32 := Scalar.addi arg16_r1 c0_i32_117_r1
  let v349_r1 : BitVec 32 := Scalar.muli c1_i32_235_r1 v113_r1
  let c0_i32_241_r1 : BitVec 32 := 0#32
  let c0_i32_242_r1 : BitVec 32 := 0#32
  ![v348_r1.toNat, v349_r1.toNat, 0, 0]
def k0_off25 (arg15_r1 : BitVec 32) : Fin 3 → Nat :=
  let c0_i32_116_r1 : BitVec 32 := 0#32
  let v112_r1 : BitVec 32 := Scalar.addi arg15_r1 c0_i32_116_r1
  let v201_r1 : Index := Scalar.indexCast v112_r1
  let c0_168_r1 : Index := 0#32
  let c0_169_r1 : Index := 0#32
  ![v201_r1.toNat, 0, 0]

def k0_chk4 (arg15_r1 : BitVec 32) : Prop :=
  (∀ a, (k0_off25 arg15_r1) a + S1x1x96.size a ≤ S2x1x96.size a)
theorem k0_off25_inb : ∀ (arg15_r1 : BitVec 32) (k0_hw4 : k0_chk4 arg15_r1), ∀ a, (k0_off25 arg15_r1) a + S1x1x96.size a ≤ S2x1x96.size a := fun arg15_r1 k0_hw4 => k0_hw4

def k0_off26 (arg10_r1 : BitVec 32) : Fin 5 → Nat :=
  let c2_i32_165_r1 : BitVec 32 := 2#32
  let v198_r1 : BitVec 32 := Scalar.remui arg10_r1 c2_i32_165_r1
  let c0_i32_172_r1 : BitVec 32 := 0#32
  let c0_i32_173_r1 : BitVec 32 := 0#32
  let c0_i32_174_r1 : BitVec 32 := 0#32
  let c0_i32_175_r1 : BitVec 32 := 0#32
  ![v198_r1.toNat, 0, 0, 0, 0]

def k0_chk5 (arg10_r1 : BitVec 32) : Prop :=
  (∀ a, (k0_off26 arg10_r1) a + S1x1x96x64x384.size a ≤ S2x1x96x64x384.size a)
theorem k0_off26_inb : ∀ (arg10_r1 : BitVec 32) (k0_hw5 : k0_chk5 arg10_r1), ∀ a, (k0_off26 arg10_r1) a + S1x1x96x64x384.size a ≤ S2x1x96x64x384.size a := fun arg10_r1 k0_hw5 => k0_hw5

def k0_off27 (arg12_r1 : BitVec 32) : Fin 5 → Nat :=
  let c2_i32_166_r1 : BitVec 32 := 2#32
  let v199_r1 : BitVec 32 := Scalar.remui arg12_r1 c2_i32_166_r1
  let c0_i32_186_r1 : BitVec 32 := 0#32
  let c0_i32_187_r1 : BitVec 32 := 0#32
  let c0_i32_188_r1 : BitVec 32 := 0#32
  let c0_i32_189_r1 : BitVec 32 := 0#32
  ![v199_r1.toNat, 0, 0, 0, 0]

def k0_chk6 (arg12_r1 : BitVec 32) : Prop :=
  (∀ a, (k0_off27 arg12_r1) a + S1x1x1x96x384.size a ≤ S2x1x1x96x384.size a)
theorem k0_off27_inb : ∀ (arg12_r1 : BitVec 32) (k0_hw6 : k0_chk6 arg12_r1), ∀ a, (k0_off27 arg12_r1) a + S1x1x1x96x384.size a ≤ S2x1x1x96x384.size a := fun arg12_r1 k0_hw6 => k0_hw6

def k0_off28 (arg13_r1 : BitVec 32) : Fin 5 → Nat :=
  let c2_i32_167_r1 : BitVec 32 := 2#32
  let v200_r1 : BitVec 32 := Scalar.remui arg13_r1 c2_i32_167_r1
  let c0_i32_201_r1 : BitVec 32 := 0#32
  let c0_i32_202_r1 : BitVec 32 := 0#32
  let c0_i32_203_r1 : BitVec 32 := 0#32
  let c0_i32_204_r1 : BitVec 32 := 0#32
  ![v200_r1.toNat, 0, 0, 0, 0]

def k0_chk7 (arg13_r1 : BitVec 32) : Prop :=
  (∀ a, (k0_off28 arg13_r1) a + S1x1x96x64x384.size a ≤ S2x1x96x64x384.size a)
theorem k0_off28_inb : ∀ (arg13_r1 : BitVec 32) (k0_hw7 : k0_chk7 arg13_r1), ∀ a, (k0_off28 arg13_r1) a + S1x1x96x64x384.size a ≤ S2x1x96x64x384.size a := fun arg13_r1 k0_hw7 => k0_hw7

def k0_off29 (arg13_r1 : BitVec 32) : Fin 1 → Nat :=
  let c2_i32_234_r1 : BitVec 32 := 2#32
  let v348_r1 : BitVec 32 := Scalar.remui arg13_r1 c2_i32_234_r1
  ![v348_r1.toNat]
def k0_cond14 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_128_r1 : BitVec 1 := 1#1
  let c1_i32_127_r1 : BitVec 32 := 1#32
  let v124_r1 : BitVec 32 := Scalar.addi arg16_r1 c1_i32_127_r1
  let v125_r1 : BitVec 32 := Scalar.select true_128_r1 v124_r1 arg16_r1
  let c6_i32_129_r1 : BitVec 32 := 6#32
  let v126_r1 : BitVec 1 := Scalar.cmpi .eq v125_r1 c6_i32_129_r1
  let c1_i32_131_r1 : BitVec 32 := 1#32
  let v128_r1 : BitVec 32 := Scalar.addi arg15_r1 c1_i32_131_r1
  let v129_r1 : BitVec 32 := Scalar.select v126_r1 v128_r1 arg15_r1
  let c2_i32_132_r1 : BitVec 32 := 2#32
  let v130_r1 : BitVec 1 := Scalar.cmpi .eq v129_r1 c2_i32_132_r1
  let c0_i32_133_r1 : BitVec 32 := 0#32
  let v131_r1 : BitVec 32 := Scalar.select v130_r1 c0_i32_133_r1 v129_r1
  let c0_i32_134_r1 : BitVec 32 := 0#32
  let v132_r1 : BitVec 32 := Scalar.addi v131_r1 c0_i32_134_r1
  let v293_r1 : BitVec 1 := Scalar.cmpi .ne v112_r1 v132_r1
  let c0_i32_117_r1 : BitVec 32 := 0#32
  let v113_r1 : BitVec 32 := Scalar.addi arg16_r1 c0_i32_117_r1
  let c0_i32_130_r1 : BitVec 32 := 0#32
  let v127_r1 : BitVec 32 := Scalar.select v126_r1 c0_i32_130_r1 v125_r1
  let c0_i32_135_r1 : BitVec 32 := 0#32
  let v133_r1 : BitVec 32 := Scalar.addi v127_r1 c0_i32_135_r1
  let v294_r1 : BitVec 1 := Scalar.cmpi .ne v113_r1 v133_r1
  let v295_r1 : BitVec 1 := Scalar.ori v293_r1 v294_r1
  let c0_i32_68_r1 : BitVec 32 := 0#32
  let c1_i32_69_r1 : BitVec 32 := 1#32
  let arg8_r1 : BitVec 32 := Scf.iv c0_i32_68_r1 c1_i32_69_r1 k0_t2
  let c11_i32_r1 : BitVec 32 := 11#32
  let v111_r1 : BitVec 1 := Scalar.cmpi .eq arg8_r1 c11_i32_r1
  let v296_r1 : BitVec 1 := Scalar.ori v295_r1 v111_r1
  let v297_r1 : BitVec 32 := Scalar.extui v296_r1
  let c0_i32_212_r1 : BitVec 32 := 0#32
  let v298_r1 : BitVec 1 := Scalar.cmpi .ne v297_r1 c0_i32_212_r1
  v298_r1

def k0_off30 (arg15_r1 : BitVec 32) (arg16_r1 : BitVec 32) : Fin 4 → Nat :=
  let c1_i32_235_r1 : BitVec 32 := 1#32
  let c0_i32_116_r1 : BitVec 32 := 0#32
  let v112_r1 : BitVec 32 := Scalar.addi arg15_r1 c0_i32_116_r1
  let v349_r1 : BitVec 32 := Scalar.muli c1_i32_235_r1 v112_r1
  let c0_i32_237_r1 : BitVec 32 := 0#32
  let c64_i32_236_r1 : BitVec 32 := 64#32
  let c0_i32_117_r1 : BitVec 32 := 0#32
  let v113_r1 : BitVec 32 := Scalar.addi arg16_r1 c0_i32_117_r1
  let v350_r1 : BitVec 32 := Scalar.muli c64_i32_236_r1 v113_r1
  let c0_i32_238_r1 : BitVec 32 := 0#32
  ![v349_r1.toNat, 0, v350_r1.toNat, 0]
def k0_off31 (arg13_r1 : BitVec 32) : Fin 5 → Nat :=
  let c2_i32_234_r1 : BitVec 32 := 2#32
  let v348_r1 : BitVec 32 := Scalar.remui arg13_r1 c2_i32_234_r1
  let c0_i32_239_r1 : BitVec 32 := 0#32
  let c0_i32_240_r1 : BitVec 32 := 0#32
  let c0_i32_241_r1 : BitVec 32 := 0#32
  let c0_i32_242_r1 : BitVec 32 := 0#32
  ![v348_r1.toNat, 0, 0, 0, 0]
def k0_off32 (arg14_r1 : BitVec 32) : Fin 1 → Nat :=
  let c2_i32_234_r1 : BitVec 32 := 2#32
  let v348_r1 : BitVec 32 := Scalar.remui arg14_r1 c2_i32_234_r1
  ![v348_r1.toNat]
def k0_cond17 (k0_t2 : Fin k0_t2_loop.trips) (arg15_r1 : BitVec 32) (arg16_r1 : BitVec 32) : BitVec 1 :=
  let c0_i32_116_r1 : BitVec 32 := 0#32
  let v112_r1 : BitVec 32 := Scalar.addi arg15_r1 c0_i32_116_r1
  let true_119_r1 : BitVec 1 := 1#1
  let c1_i32_118_r1 : BitVec 32 := 1#32
  let v114_r1 : BitVec 32 := Scalar.subi arg16_r1 c1_i32_118_r1
  let v115_r1 : BitVec 32 := Scalar.select true_119_r1 v114_r1 arg16_r1
  let c_m1_i32_120_r1 : BitVec 32 := 4294967295#32
  let v116_r1 : BitVec 1 := Scalar.cmpi .eq v115_r1 c_m1_i32_120_r1
  let c1_i32_122_r1 : BitVec 32 := 1#32
  let v118_r1 : BitVec 32 := Scalar.subi arg15_r1 c1_i32_122_r1
  let v119_r1 : BitVec 32 := Scalar.select v116_r1 v118_r1 arg15_r1
  let c_m1_i32_123_r1 : BitVec 32 := 4294967295#32
  let v120_r1 : BitVec 1 := Scalar.cmpi .eq v119_r1 c_m1_i32_123_r1
  let c1_i32_124_r1 : BitVec 32 := 1#32
  let v121_r1 : BitVec 32 := Scalar.select v120_r1 c1_i32_124_r1 v119_r1
  let c0_i32_125_r1 : BitVec 32 := 0#32
  let v122_r1 : BitVec 32 := Scalar.addi v121_r1 c0_i32_125_r1
  let v318_r1 : BitVec 1 := Scalar.cmpi .ne v112_r1 v122_r1
  let c0_i32_117_r1 : BitVec 32 := 0#32
  let v113_r1 : BitVec 32 := Scalar.addi arg16_r1 c0_i32_117_r1
  let c5_i32_121_r1 : BitVec 32 := 5#32
  let v117_r1 : BitVec 32 := Scalar.select v116_r1 c5_i32_121_r1 v115_r1
  let c0_i32_126_r1 : BitVec 32 := 0#32
  let v123_r1 : BitVec 32 := Scalar.addi v117_r1 c0_i32_126_r1
  let v319_r1 : BitVec 1 := Scalar.cmpi .ne v113_r1 v123_r1
  let v320_r1 : BitVec 1 := Scalar.ori v318_r1 v319_r1
  let c0_i32_68_r1 : BitVec 32 := 0#32
  let c1_i32_69_r1 : BitVec 32 := 1#32
  let arg8_r1 : BitVec 32 := Scf.iv c0_i32_68_r1 c1_i32_69_r1 k0_t2
  let c0_i32_115_r1 : BitVec 32 := 0#32
  let v110_r1 : BitVec 1 := Scalar.cmpi .eq arg8_r1 c0_i32_115_r1
  let true_221_r1 : BitVec 1 := 1#1
  let v321_r1 : BitVec 1 := Scalar.xori v110_r1 true_221_r1
  let v322_r1 : BitVec 1 := Scalar.andi v320_r1 v321_r1
  let v323_r1 : BitVec 32 := Scalar.extui v322_r1
  let c0_i32_222_r1 : BitVec 32 := 0#32
  let v324_r1 : BitVec 1 := Scalar.cmpi .ne v323_r1 c0_i32_222_r1
  v324_r1

def k0_off33 (arg15_r1 : BitVec 32) (arg16_r1 : BitVec 32) : Fin 4 → Nat :=
  let c1_i32_235_r1 : BitVec 32 := 1#32
  let true_119_r1 : BitVec 1 := 1#1
  let c1_i32_118_r1 : BitVec 32 := 1#32
  let v114_r1 : BitVec 32 := Scalar.subi arg16_r1 c1_i32_118_r1
  let v115_r1 : BitVec 32 := Scalar.select true_119_r1 v114_r1 arg16_r1
  let c_m1_i32_120_r1 : BitVec 32 := 4294967295#32
  let v116_r1 : BitVec 1 := Scalar.cmpi .eq v115_r1 c_m1_i32_120_r1
  let c1_i32_122_r1 : BitVec 32 := 1#32
  let v118_r1 : BitVec 32 := Scalar.subi arg15_r1 c1_i32_122_r1
  let v119_r1 : BitVec 32 := Scalar.select v116_r1 v118_r1 arg15_r1
  let c_m1_i32_123_r1 : BitVec 32 := 4294967295#32
  let v120_r1 : BitVec 1 := Scalar.cmpi .eq v119_r1 c_m1_i32_123_r1
  let c1_i32_124_r1 : BitVec 32 := 1#32
  let v121_r1 : BitVec 32 := Scalar.select v120_r1 c1_i32_124_r1 v119_r1
  let c0_i32_125_r1 : BitVec 32 := 0#32
  let v122_r1 : BitVec 32 := Scalar.addi v121_r1 c0_i32_125_r1
  let v349_r1 : BitVec 32 := Scalar.muli c1_i32_235_r1 v122_r1
  let c0_i32_237_r1 : BitVec 32 := 0#32
  let c64_i32_236_r1 : BitVec 32 := 64#32
  let c5_i32_121_r1 : BitVec 32 := 5#32
  let v117_r1 : BitVec 32 := Scalar.select v116_r1 c5_i32_121_r1 v115_r1
  let c0_i32_126_r1 : BitVec 32 := 0#32
  let v123_r1 : BitVec 32 := Scalar.addi v117_r1 c0_i32_126_r1
  let v350_r1 : BitVec 32 := Scalar.muli c64_i32_236_r1 v123_r1
  let c0_i32_238_r1 : BitVec 32 := 0#32
  ![v349_r1.toNat, 0, v350_r1.toNat, 0]
def k0_off34 (arg14_r1 : BitVec 32) : Fin 5 → Nat :=
  let c2_i32_234_r1 : BitVec 32 := 2#32
  let v348_r1 : BitVec 32 := Scalar.remui arg14_r1 c2_i32_234_r1
  let c0_i32_239_r1 : BitVec 32 := 0#32
  let c0_i32_240_r1 : BitVec 32 := 0#32
  let c0_i32_241_r1 : BitVec 32 := 0#32
  let c0_i32_242_r1 : BitVec 32 := 0#32
  ![v348_r1.toNat, 0, 0, 0, 0]

def k0_chk3 (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) : Prop :=
  (∀ (k0_h7 : k0_cond7 k0_t2 arg15_r1 arg16_r1 = 1#1), ∀ a, (k0_off13 arg9_r1) a + S1.size a ≤ S2.size a) ∧
  (∀ (k0_h7 : k0_cond7 k0_t2 arg15_r1 arg16_r1 = 1#1), ∀ a, (k0_off14 arg9_r1) a + S1x1x96x64x384.size a ≤ S2x1x96x64x384.size a) ∧
  (∀ (k0_h7 : k0_cond7 k0_t2 arg15_r1 arg16_r1 = 1#1), ∀ a, (k0_off15 arg15_r1 arg16_r1) a + S1x96x64x384.size a ≤ S2x96x384x384.size a) ∧
  (∀ (k0_h8 : k0_cond8 k0_t2 arg15_r1 arg16_r1 = 1#1), ∀ a, (k0_off16 arg11_r1) a + S1.size a ≤ S2.size a) ∧
  (∀ (k0_h8 : k0_cond8 k0_t2 arg15_r1 arg16_r1 = 1#1), ∀ a, (k0_off17 arg11_r1) a + S1x1x1x96x384.size a ≤ S2x1x1x96x384.size a) ∧
  (∀ (k0_h8 : k0_cond8 k0_t2 arg15_r1 arg16_r1 = 1#1), ∀ a, (k0_off18 arg15_r1 arg16_r1) a + S1x1x96x384.size a ≤ S2x6x96x384.size a) ∧
  (∀ (k0_h9 : k0_cond9 k0_t2 arg15_r1 arg16_r1 = 1#1), ∀ a, (k0_off19 arg10_r1) a + S1.size a ≤ S2.size a) ∧
  (∀ (k0_h9 : k0_cond9 k0_t2 arg15_r1 arg16_r1 = 1#1), ∀ a, (k0_off20 arg10_r1) a + S1x1x96x64x384.size a ≤ S2x1x96x64x384.size a) ∧
  (∀ (k0_h9 : k0_cond9 k0_t2 arg15_r1 arg16_r1 = 1#1), ∀ a, (k0_off21 arg15_r1 arg16_r1) a + S1x96x64x384.size a ≤ S2x96x384x384.size a) ∧
  (∀ (k0_h10 : k0_cond10 k0_t2 arg15_r1 arg16_r1 = 1#1), ∀ a, (k0_off22 arg12_r1) a + S1.size a ≤ S2.size a) ∧
  (∀ (k0_h10 : k0_cond10 k0_t2 arg15_r1 arg16_r1 = 1#1), ∀ a, (k0_off23 arg12_r1) a + S1x1x1x96x384.size a ≤ S2x1x1x96x384.size a) ∧
  (∀ (k0_h10 : k0_cond10 k0_t2 arg15_r1 arg16_r1 = 1#1), ∀ a, (k0_off24 arg15_r1 arg16_r1) a + S1x1x96x384.size a ≤ S2x6x96x384.size a) ∧
  (∀ (k0_h14 : k0_cond14 k0_t2 arg15_r1 arg16_r1 = 1#1), ∀ a, (k0_off29 arg13_r1) a + S1.size a ≤ S2.size a) ∧
  (∀ (k0_h14 : k0_cond14 k0_t2 arg15_r1 arg16_r1 = 1#1), ∀ a, (k0_off30 arg15_r1 arg16_r1) a + S1x96x64x384.size a ≤ S2x96x384x384.size a) ∧
  (∀ (k0_h14 : k0_cond14 k0_t2 arg15_r1 arg16_r1 = 1#1), ∀ a, (k0_off31 arg13_r1) a + S1x1x96x64x384.size a ≤ S2x1x96x64x384.size a) ∧
  (∀ (k0_h17 : k0_cond17 k0_t2 arg15_r1 arg16_r1 = 1#1), ∀ a, (k0_off32 arg14_r1) a + S1.size a ≤ S2.size a) ∧
  (∀ (k0_h17 : k0_cond17 k0_t2 arg15_r1 arg16_r1 = 1#1), ∀ a, (k0_off33 arg15_r1 arg16_r1) a + S1x96x64x384.size a ≤ S2x96x384x384.size a) ∧
  (∀ (k0_h17 : k0_cond17 k0_t2 arg15_r1 arg16_r1 = 1#1), ∀ a, (k0_off34 arg14_r1) a + S1x1x96x64x384.size a ≤ S2x1x96x64x384.size a)
theorem k0_off13_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h7 : k0_cond7 k0_t2 arg15_r1 arg16_r1 = 1#1), ∀ a, (k0_off13 arg9_r1) a + S1.size a ≤ S2.size a := fun k0_t2 arg9_r1 arg10_r1 arg11_r1 arg12_r1 arg13_r1 arg14_r1 arg15_r1 arg16_r1 k0_hw3 k0_h7 => k0_hw3.1 k0_h7
theorem k0_off14_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h7 : k0_cond7 k0_t2 arg15_r1 arg16_r1 = 1#1), ∀ a, (k0_off14 arg9_r1) a + S1x1x96x64x384.size a ≤ S2x1x96x64x384.size a := fun k0_t2 arg9_r1 arg10_r1 arg11_r1 arg12_r1 arg13_r1 arg14_r1 arg15_r1 arg16_r1 k0_hw3 k0_h7 => k0_hw3.2.1 k0_h7
theorem k0_off15_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h7 : k0_cond7 k0_t2 arg15_r1 arg16_r1 = 1#1), ∀ a, (k0_off15 arg15_r1 arg16_r1) a + S1x96x64x384.size a ≤ S2x96x384x384.size a := fun k0_t2 arg9_r1 arg10_r1 arg11_r1 arg12_r1 arg13_r1 arg14_r1 arg15_r1 arg16_r1 k0_hw3 k0_h7 => k0_hw3.2.2.1 k0_h7
theorem k0_off16_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h8 : k0_cond8 k0_t2 arg15_r1 arg16_r1 = 1#1), ∀ a, (k0_off16 arg11_r1) a + S1.size a ≤ S2.size a := fun k0_t2 arg9_r1 arg10_r1 arg11_r1 arg12_r1 arg13_r1 arg14_r1 arg15_r1 arg16_r1 k0_hw3 k0_h8 => k0_hw3.2.2.2.1 k0_h8
theorem k0_off17_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h8 : k0_cond8 k0_t2 arg15_r1 arg16_r1 = 1#1), ∀ a, (k0_off17 arg11_r1) a + S1x1x1x96x384.size a ≤ S2x1x1x96x384.size a := fun k0_t2 arg9_r1 arg10_r1 arg11_r1 arg12_r1 arg13_r1 arg14_r1 arg15_r1 arg16_r1 k0_hw3 k0_h8 => k0_hw3.2.2.2.2.1 k0_h8
theorem k0_off18_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h8 : k0_cond8 k0_t2 arg15_r1 arg16_r1 = 1#1), ∀ a, (k0_off18 arg15_r1 arg16_r1) a + S1x1x96x384.size a ≤ S2x6x96x384.size a := fun k0_t2 arg9_r1 arg10_r1 arg11_r1 arg12_r1 arg13_r1 arg14_r1 arg15_r1 arg16_r1 k0_hw3 k0_h8 => k0_hw3.2.2.2.2.2.1 k0_h8
theorem k0_off19_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h9 : k0_cond9 k0_t2 arg15_r1 arg16_r1 = 1#1), ∀ a, (k0_off19 arg10_r1) a + S1.size a ≤ S2.size a := fun k0_t2 arg9_r1 arg10_r1 arg11_r1 arg12_r1 arg13_r1 arg14_r1 arg15_r1 arg16_r1 k0_hw3 k0_h9 => k0_hw3.2.2.2.2.2.2.1 k0_h9
theorem k0_off20_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h9 : k0_cond9 k0_t2 arg15_r1 arg16_r1 = 1#1), ∀ a, (k0_off20 arg10_r1) a + S1x1x96x64x384.size a ≤ S2x1x96x64x384.size a := fun k0_t2 arg9_r1 arg10_r1 arg11_r1 arg12_r1 arg13_r1 arg14_r1 arg15_r1 arg16_r1 k0_hw3 k0_h9 => k0_hw3.2.2.2.2.2.2.2.1 k0_h9
theorem k0_off21_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h9 : k0_cond9 k0_t2 arg15_r1 arg16_r1 = 1#1), ∀ a, (k0_off21 arg15_r1 arg16_r1) a + S1x96x64x384.size a ≤ S2x96x384x384.size a := fun k0_t2 arg9_r1 arg10_r1 arg11_r1 arg12_r1 arg13_r1 arg14_r1 arg15_r1 arg16_r1 k0_hw3 k0_h9 => k0_hw3.2.2.2.2.2.2.2.2.1 k0_h9
theorem k0_off22_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h10 : k0_cond10 k0_t2 arg15_r1 arg16_r1 = 1#1), ∀ a, (k0_off22 arg12_r1) a + S1.size a ≤ S2.size a := fun k0_t2 arg9_r1 arg10_r1 arg11_r1 arg12_r1 arg13_r1 arg14_r1 arg15_r1 arg16_r1 k0_hw3 k0_h10 => k0_hw3.2.2.2.2.2.2.2.2.2.1 k0_h10
theorem k0_off23_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h10 : k0_cond10 k0_t2 arg15_r1 arg16_r1 = 1#1), ∀ a, (k0_off23 arg12_r1) a + S1x1x1x96x384.size a ≤ S2x1x1x96x384.size a := fun k0_t2 arg9_r1 arg10_r1 arg11_r1 arg12_r1 arg13_r1 arg14_r1 arg15_r1 arg16_r1 k0_hw3 k0_h10 => k0_hw3.2.2.2.2.2.2.2.2.2.2.1 k0_h10
theorem k0_off24_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h10 : k0_cond10 k0_t2 arg15_r1 arg16_r1 = 1#1), ∀ a, (k0_off24 arg15_r1 arg16_r1) a + S1x1x96x384.size a ≤ S2x6x96x384.size a := fun k0_t2 arg9_r1 arg10_r1 arg11_r1 arg12_r1 arg13_r1 arg14_r1 arg15_r1 arg16_r1 k0_hw3 k0_h10 => k0_hw3.2.2.2.2.2.2.2.2.2.2.2.1 k0_h10
theorem k0_off29_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h14 : k0_cond14 k0_t2 arg15_r1 arg16_r1 = 1#1), ∀ a, (k0_off29 arg13_r1) a + S1.size a ≤ S2.size a := fun k0_t2 arg9_r1 arg10_r1 arg11_r1 arg12_r1 arg13_r1 arg14_r1 arg15_r1 arg16_r1 k0_hw3 k0_h14 => k0_hw3.2.2.2.2.2.2.2.2.2.2.2.2.1 k0_h14
theorem k0_off30_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h14 : k0_cond14 k0_t2 arg15_r1 arg16_r1 = 1#1), ∀ a, (k0_off30 arg15_r1 arg16_r1) a + S1x96x64x384.size a ≤ S2x96x384x384.size a := fun k0_t2 arg9_r1 arg10_r1 arg11_r1 arg12_r1 arg13_r1 arg14_r1 arg15_r1 arg16_r1 k0_hw3 k0_h14 => k0_hw3.2.2.2.2.2.2.2.2.2.2.2.2.2.1 k0_h14
theorem k0_off31_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h14 : k0_cond14 k0_t2 arg15_r1 arg16_r1 = 1#1), ∀ a, (k0_off31 arg13_r1) a + S1x1x96x64x384.size a ≤ S2x1x96x64x384.size a := fun k0_t2 arg9_r1 arg10_r1 arg11_r1 arg12_r1 arg13_r1 arg14_r1 arg15_r1 arg16_r1 k0_hw3 k0_h14 => k0_hw3.2.2.2.2.2.2.2.2.2.2.2.2.2.2.1 k0_h14
theorem k0_off32_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h17 : k0_cond17 k0_t2 arg15_r1 arg16_r1 = 1#1), ∀ a, (k0_off32 arg14_r1) a + S1.size a ≤ S2.size a := fun k0_t2 arg9_r1 arg10_r1 arg11_r1 arg12_r1 arg13_r1 arg14_r1 arg15_r1 arg16_r1 k0_hw3 k0_h17 => k0_hw3.2.2.2.2.2.2.2.2.2.2.2.2.2.2.2.1 k0_h17
theorem k0_off33_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h17 : k0_cond17 k0_t2 arg15_r1 arg16_r1 = 1#1), ∀ a, (k0_off33 arg15_r1 arg16_r1) a + S1x96x64x384.size a ≤ S2x96x384x384.size a := fun k0_t2 arg9_r1 arg10_r1 arg11_r1 arg12_r1 arg13_r1 arg14_r1 arg15_r1 arg16_r1 k0_hw3 k0_h17 => k0_hw3.2.2.2.2.2.2.2.2.2.2.2.2.2.2.2.2.1 k0_h17
theorem k0_off34_inb : ∀ (k0_t2 : Fin k0_t2_loop.trips) (arg9_r1 : BitVec 32) (arg10_r1 : BitVec 32) (arg11_r1 : BitVec 32) (arg12_r1 : BitVec 32) (arg13_r1 : BitVec 32) (arg14_r1 : BitVec 32) (arg15_r1 : BitVec 32) (arg16_r1 : BitVec 32) (k0_hw3 : k0_chk3 k0_t2 arg9_r1 arg10_r1 arg11_r1 arg12_r1 arg13_r1 arg14_r1 arg15_r1 arg16_r1), ∀ (k0_h17 : k0_cond17 k0_t2 arg15_r1 arg16_r1 = 1#1), ∀ a, (k0_off34 arg14_r1) a + S1x1x96x64x384.size a ≤ S2x1x96x64x384.size a := fun k0_t2 arg9_r1 arg10_r1 arg11_r1 arg12_r1 arg13_r1 arg14_r1 arg15_r1 arg16_r1 k0_hw3 k0_h17 => k0_hw3.2.2.2.2.2.2.2.2.2.2.2.2.2.2.2.2.2 k0_h17

def k0_off35 (v61_5_r1 : BitVec 32) : Fin 1 → Nat :=
  let c2_i32_107_r1 : BitVec 32 := 2#32
  let v102_r1 : BitVec 32 := Scalar.remui v61_5_r1 c2_i32_107_r1
  ![v102_r1.toNat]

def k0_off36 (v61_7_r1 : BitVec 32) (v61_6_r1 : BitVec 32) : Fin 4 → Nat :=
  let c1_i32_108_r1 : BitVec 32 := 1#32
  let true_72_r1 : BitVec 1 := 1#1
  let c1_i32_71_r1 : BitVec 32 := 1#32
  let v62_r1 : BitVec 32 := Scalar.subi v61_7_r1 c1_i32_71_r1
  let v63_r1 : BitVec 32 := Scalar.select true_72_r1 v62_r1 v61_7_r1
  let c_m1_i32_73_r1 : BitVec 32 := 4294967295#32
  let v64_r1 : BitVec 1 := Scalar.cmpi .eq v63_r1 c_m1_i32_73_r1
  let c1_i32_75_r1 : BitVec 32 := 1#32
  let v66_r1 : BitVec 32 := Scalar.subi v61_6_r1 c1_i32_75_r1
  let v67_r1 : BitVec 32 := Scalar.select v64_r1 v66_r1 v61_6_r1
  let c_m1_i32_76_r1 : BitVec 32 := 4294967295#32
  let v68_r1 : BitVec 1 := Scalar.cmpi .eq v67_r1 c_m1_i32_76_r1
  let c1_i32_77_r1 : BitVec 32 := 1#32
  let v69_r1 : BitVec 32 := Scalar.select v68_r1 c1_i32_77_r1 v67_r1
  let c0_i32_78_r1 : BitVec 32 := 0#32
  let v70_r1 : BitVec 32 := Scalar.addi v69_r1 c0_i32_78_r1
  let v103_r1 : BitVec 32 := Scalar.muli c1_i32_108_r1 v70_r1
  let c0_i32_109_r1 : BitVec 32 := 0#32
  let c64_i32_r1 : BitVec 32 := 64#32
  let c5_i32_74_r1 : BitVec 32 := 5#32
  let v65_r1 : BitVec 32 := Scalar.select v64_r1 c5_i32_74_r1 v63_r1
  let c0_i32_79_r1 : BitVec 32 := 0#32
  let v71_r1 : BitVec 32 := Scalar.addi v65_r1 c0_i32_79_r1
  let v104_r1 : BitVec 32 := Scalar.muli c64_i32_r1 v71_r1
  let c0_i32_110_r1 : BitVec 32 := 0#32
  ![v103_r1.toNat, 0, v104_r1.toNat, 0]

def k0_chk9 (v61_7_r1 : BitVec 32) (v61_6_r1 : BitVec 32) : Prop :=
  (∀ a, (k0_off36 v61_7_r1 v61_6_r1) a + S1x96x64x384.size a ≤ S2x96x384x384.size a)
theorem k0_off36_inb : ∀ (v61_7_r1 : BitVec 32) (v61_6_r1 : BitVec 32) (k0_hw9 : k0_chk9 v61_7_r1 v61_6_r1), ∀ a, (k0_off36 v61_7_r1 v61_6_r1) a + S1x96x64x384.size a ≤ S2x96x384x384.size a := fun v61_7_r1 v61_6_r1 k0_hw9 => k0_hw9

def k0_off37 (v61_5_r1 : BitVec 32) : Fin 5 → Nat :=
  let c2_i32_107_r1 : BitVec 32 := 2#32
  let v102_r1 : BitVec 32 := Scalar.remui v61_5_r1 c2_i32_107_r1
  let c0_i32_111_r1 : BitVec 32 := 0#32
  let c0_i32_112_r1 : BitVec 32 := 0#32
  let c0_i32_113_r1 : BitVec 32 := 0#32
  let c0_i32_114_r1 : BitVec 32 := 0#32
  ![v102_r1.toNat, 0, 0, 0, 0]

def k0_chk8 (v61_5_r1 : BitVec 32) : Prop :=
  (∀ a, (k0_off35 v61_5_r1) a + S1.size a ≤ S2.size a) ∧
  (∀ a, (k0_off37 v61_5_r1) a + S1x1x96x64x384.size a ≤ S2x1x96x64x384.size a)
theorem k0_off35_inb : ∀ (v61_5_r1 : BitVec 32) (k0_hw8 : k0_chk8 v61_5_r1), ∀ a, (k0_off35 v61_5_r1) a + S1.size a ≤ S2.size a := fun v61_5_r1 k0_hw8 => k0_hw8.1
theorem k0_off37_inb : ∀ (v61_5_r1 : BitVec 32) (k0_hw8 : k0_chk8 v61_5_r1), ∀ a, (k0_off37 v61_5_r1) a + S1x1x96x64x384.size a ≤ S2x1x96x64x384.size a := fun v61_5_r1 k0_hw8 => k0_hw8.2

abbrev stage0_0 : Fin 1 → Memref sig .tc .vmem S96x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_n" => some ((147456⁻¹ : ℝ) : EReal)
  | _ => none
-- ==== ReferenceIdeal.lean ====
abbrev S2x96x384x384 : Shape := ⟨4, ![2, 96, 384, 384]⟩
abbrev S6x96 : Shape := ⟨2, ![6, 96]⟩
abbrev S96x6 : Shape := ⟨2, ![96, 6]⟩
abbrev S96x96 : Shape := ⟨2, ![96, 96]⟩
abbrev S96 : Shape := ⟨1, ![96]⟩
abbrev S147456 : Shape := ⟨1, ![147456]⟩
abbrev S384x384 : Shape := ⟨2, ![384, 384]⟩
abbrev S383x384 : Shape := ⟨2, ![383, 384]⟩
abbrev S147072 : Shape := ⟨1, ![147072]⟩
abbrev S384x383 : Shape := ⟨2, ![384, 383]⟩
abbrev S441600 : Shape := ⟨1, ![441600]⟩
abbrev S_ : Shape := ⟨0, ![]⟩
abbrev S2x96 : Shape := ⟨2, ![2, 96]⟩
abbrev S2x6 : Shape := ⟨2, ![2, 6]⟩
abbrev S2x96x1x1 : Shape := ⟨4, ![2, 96, 1, 1]⟩
abbrev S2x96x147456 : Shape := ⟨3, ![2, 96, 147456]⟩
abbrev S2x147456x96 : Shape := ⟨3, ![2, 147456, 96]⟩
abbrev S441600x1 : Shape := ⟨2, ![441600, 1]⟩
abbrev S2x441600x96 : Shape := ⟨3, ![2, 441600, 96]⟩
abbrev S1x441600x1 : Shape := ⟨3, ![1, 441600, 1]⟩
abbrev S147456x96 : Shape := ⟨2, ![147456, 96]⟩
abbrev S1x96 : Shape := ⟨2, ![1, 96]⟩
abbrev S1x1x96 : Shape := ⟨3, ![1, 1, 96]⟩

abbrev nBuf : Space → Nat
  | .hbm => 109
  | .vmem => 0
  | .smem => 0
  | _ => 0

abbrev bufTy : (tb : Table) → Fin (tcTables nBuf tb) → BufTy
  | .hbm, ⟨0, _⟩ => ⟨S2x96x384x384, .f32⟩
  | .hbm, ⟨1, _⟩ => ⟨S6x96, .f32⟩
  | .hbm, ⟨2, _⟩ => ⟨S96x6, .f32⟩
  | .hbm, ⟨3, _⟩ => ⟨S96x96, .f32⟩
  | .hbm, ⟨4, _⟩ => ⟨S96, .f32⟩
  | .hbm, ⟨5, _⟩ => ⟨S147456, .i32⟩
  | .hbm, ⟨6, _⟩ => ⟨S384x384, .i32⟩
  | .hbm, ⟨7, _⟩ => ⟨S147456, .i32⟩
  | .hbm, ⟨8, _⟩ => ⟨S383x384, .i32⟩
  | .hbm, ⟨9, _⟩ => ⟨S147072, .i32⟩
  | .hbm, ⟨10, _⟩ => ⟨S384x383, .i32⟩
  | .hbm, ⟨11, _⟩ => ⟨S147072, .i32⟩
  | .hbm, ⟨12, _⟩ => ⟨S441600, .i32⟩
  | .hbm, ⟨13, _⟩ => ⟨S383x384, .i32⟩
  | .hbm, ⟨14, _⟩ => ⟨S147072, .i32⟩
  | .hbm, ⟨15, _⟩ => ⟨S384x383, .i32⟩
  | .hbm, ⟨16, _⟩ => ⟨S147072, .i32⟩
  | .hbm, ⟨17, _⟩ => ⟨S441600, .i32⟩
  | .hbm, ⟨18, _⟩ => ⟨S_, .f32⟩
  | .hbm, ⟨19, _⟩ => ⟨S2x96, .f32⟩
  | .hbm, ⟨20, _⟩ => ⟨S_, .f32⟩
  | .hbm, ⟨21, _⟩ => ⟨S2x96, .f32⟩
  | .hbm, ⟨22, _⟩ => ⟨S2x96, .f32⟩
  | .hbm, ⟨23, _⟩ => ⟨S96x6, .f32⟩
  | .hbm, ⟨24, _⟩ => ⟨S2x6, .f32⟩
  | .hbm, ⟨25, _⟩ => ⟨S_, .f32⟩
  | .hbm, ⟨26, _⟩ => ⟨S2x6, .f32⟩
  | .hbm, ⟨27, _⟩ => ⟨S2x6, .f32⟩
  | .hbm, ⟨28, _⟩ => ⟨S6x96, .f32⟩
  | .hbm, ⟨29, _⟩ => ⟨S2x96, .f32⟩
  | .hbm, ⟨30, _⟩ => ⟨S2x96, .f32⟩
  | .hbm, ⟨31, _⟩ => ⟨S2x96, .f32⟩
  | .hbm, ⟨32, _⟩ => ⟨S_, .f32⟩
  | .hbm, ⟨33, _⟩ => ⟨S2x96, .f32⟩
  | .hbm, ⟨34, _⟩ => ⟨S2x96, .f32⟩
  | .hbm, ⟨35, _⟩ => ⟨S_, .f32⟩
  | .hbm, ⟨36, _⟩ => ⟨S2x96, .f32⟩
  | .hbm, ⟨37, _⟩ => ⟨S2x96, .f32⟩
  | .hbm, ⟨38, _⟩ => ⟨S2x96x1x1, .f32⟩
  | .hbm, ⟨39, _⟩ => ⟨S2x96x384x384, .f32⟩
  | .hbm, ⟨40, _⟩ => ⟨S2x96x384x384, .f32⟩
  | .hbm, ⟨41, _⟩ => ⟨S2x96x147456, .f32⟩
  | .hbm, ⟨42, _⟩ => ⟨S2x147456x96, .f32⟩
  | .hbm, ⟨43, _⟩ => ⟨S_, .f32⟩
  | .hbm, ⟨44, _⟩ => ⟨S147456, .f32⟩
  | .hbm, ⟨45, _⟩ => ⟨S_, .i32⟩
  | .hbm, ⟨46, _⟩ => ⟨S441600, .i32⟩
  | .hbm, ⟨47, _⟩ => ⟨S441600, .i1⟩
  | .hbm, ⟨48, _⟩ => ⟨S_, .i32⟩
  | .hbm, ⟨49, _⟩ => ⟨S441600, .i32⟩
  | .hbm, ⟨50, _⟩ => ⟨S441600, .i32⟩
  | .hbm, ⟨51, _⟩ => ⟨S441600, .i32⟩
  | .hbm, ⟨52, _⟩ => ⟨S441600x1, .i32⟩
  | .hbm, ⟨53, _⟩ => ⟨S_, .f32⟩
  | .hbm, ⟨54, _⟩ => ⟨S441600, .f32⟩
  | .hbm, ⟨55, _⟩ => ⟨S147456, .f32⟩
  | .hbm, ⟨56, _⟩ => ⟨S147456, .f32⟩
  | .hbm, ⟨57, _⟩ => ⟨S_, .i32⟩
  | .hbm, ⟨58, _⟩ => ⟨S441600, .i32⟩
  | .hbm, ⟨59, _⟩ => ⟨S441600, .i1⟩
  | .hbm, ⟨60, _⟩ => ⟨S_, .i32⟩
  | .hbm, ⟨61, _⟩ => ⟨S441600, .i32⟩
  | .hbm, ⟨62, _⟩ => ⟨S441600, .i32⟩
  | .hbm, ⟨63, _⟩ => ⟨S441600, .i32⟩
  | .hbm, ⟨64, _⟩ => ⟨S441600x1, .i32⟩
  | .hbm, ⟨65, _⟩ => ⟨S441600, .f32⟩
  | .hbm, ⟨66, _⟩ => ⟨S_, .i32⟩
  | .hbm, ⟨67, _⟩ => ⟨S441600, .i32⟩
  | .hbm, ⟨68, _⟩ => ⟨S441600, .i1⟩
  | .hbm, ⟨69, _⟩ => ⟨S_, .i32⟩
  | .hbm, ⟨70, _⟩ => ⟨S441600, .i32⟩
  | .hbm, ⟨71, _⟩ => ⟨S441600, .i32⟩
  | .hbm, ⟨72, _⟩ => ⟨S441600, .i32⟩
  | .hbm, ⟨73, _⟩ => ⟨S441600x1, .i32⟩
  | .hbm, ⟨74, _⟩ => ⟨S441600, .f32⟩
  | .hbm, ⟨75, _⟩ => ⟨S441600, .f32⟩
  | .hbm, ⟨76, _⟩ => ⟨S96x96, .f32⟩
  | .hbm, ⟨77, _⟩ => ⟨S2x147456x96, .f32⟩
  | .hbm, ⟨78, _⟩ => ⟨S_, .i32⟩
  | .hbm, ⟨79, _⟩ => ⟨S441600, .i32⟩
  | .hbm, ⟨80, _⟩ => ⟨S441600, .i1⟩
  | .hbm, ⟨81, _⟩ => ⟨S_, .i32⟩
  | .hbm, ⟨82, _⟩ => ⟨S441600, .i32⟩
  | .hbm, ⟨83, _⟩ => ⟨S441600, .i32⟩
  | .hbm, ⟨84, _⟩ => ⟨S441600, .i32⟩
  | .hbm, ⟨85, _⟩ => ⟨S441600x1, .i32⟩
  | .hbm, ⟨86, _⟩ => ⟨S2x441600x96, .f32⟩
  | .hbm, ⟨87, _⟩ => ⟨S441600x1, .f32⟩
  | .hbm, ⟨88, _⟩ => ⟨S1x441600x1, .f32⟩
  | .hbm, ⟨89, _⟩ => ⟨S2x441600x96, .f32⟩
  | .hbm, ⟨90, _⟩ => ⟨S2x441600x96, .f32⟩
  | .hbm, ⟨91, _⟩ => ⟨S_, .f32⟩
  | .hbm, ⟨92, _⟩ => ⟨S147456x96, .f32⟩
  | .hbm, ⟨93, _⟩ => ⟨S_, .i32⟩
  | .hbm, ⟨94, _⟩ => ⟨S441600, .i32⟩
  | .hbm, ⟨95, _⟩ => ⟨S441600, .i1⟩
  | .hbm, ⟨96, _⟩ => ⟨S_, .i32⟩
  | .hbm, ⟨97, _⟩ => ⟨S441600, .i32⟩
  | .hbm, ⟨98, _⟩ => ⟨S441600, .i32⟩
  | .hbm, ⟨99, _⟩ => ⟨S441600, .i32⟩
  | .hbm, ⟨100, _⟩ => ⟨S441600x1, .i32⟩
  | .hbm, ⟨101, _⟩ => ⟨S2x147456x96, .f32⟩
  | .hbm, ⟨102, _⟩ => ⟨S2x147456x96, .f32⟩
  | .hbm, ⟨103, _⟩ => ⟨S1x96, .f32⟩
  | .hbm, ⟨104, _⟩ => ⟨S1x1x96, .f32⟩
  | .hbm, ⟨105, _⟩ => ⟨S2x147456x96, .f32⟩
  | .hbm, ⟨106, _⟩ => ⟨S2x147456x96, .f32⟩
  | .hbm, ⟨107, _⟩ => ⟨S2x96x147456, .f32⟩
  | .hbm, ⟨108, _⟩ => ⟨S2x96x384x384, .f32⟩
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_8 : Ref sig .tc := ⟨.hbm, 66, rfl⟩
abbrev main_v49 : Ref sig .tc := ⟨.hbm, 67, rfl⟩
abbrev main_v50 : Ref sig .tc := ⟨.hbm, 68, rfl⟩
abbrev main_c_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== Proof.KernelIdeal.Words.lean ====
/-
  The words the two counted loops carry, in closed form over the trip number, and what the kernel's
  conditions, offsets and checks are at those words. Both loops go through the twelve blocks of the image
  in order: block `b` is image `b / 6`, rows `64·(b % 6)` to `64·(b % 6) + 63`. Each fact is a statement
  about the twelve trips, decided.
-/
module

public import proofs.«01_k».proof.Proof.Gen.KernelIdeal.Loops
public import Idealize.ShloMosaic.Lib.Ring
public import Idealize.ShloMosaic.Lib.Ring.Trips

@[expose] public section

namespace Cert.Proof.KernelIdeal

open Cert.KernelIdeal Cert.KernelIdeal.Gen
open Idealize.ShloMosaic

/-- The word of a natural number. -/
abbrev wd (n : ℕ) : BitVec 32 := BitVec.ofNat 32 n

/-- Both loops run twelve trips. -/
theorem trips1 : k0_t1_loop.trips = 12 := by decide
theorem trips2 : k0_t2_loop.trips = 12 := by decide

theorem lt12_1 (k : Fin k0_t1_loop.trips) : k.val < 12 := Nat.lt_of_lt_of_eq k.isLt trips1
theorem lt12_2 (k : Fin k0_t2_loop.trips) : k.val < 12 := Nat.lt_of_lt_of_eq k.isLt trips2

/-- Before trip `k`: the blocks started, the blocks awaited, the image and the row block. -/
def nIn (k : ℕ) : BitVec 32 := wd (min (k + 1) 12)
def nAt (k : ℕ) : BitVec 32 := wd k
def nBi (k : ℕ) : BitVec 32 := wd (k / 6 % 2)
def nHi (k : ℕ) : BitVec 32 := wd (k % 6)
/-- Before trip `k` the blocks of the result awaited: one fewer than started, none before the first. -/
def nOut (k : ℕ) : BitVec 32 := wd (k - 1)

/-- What the first loop carries before trip `k`. -/
abbrev carry1 (k : ℕ) : BitVec 32 × BitVec 32 × BitVec 32 × BitVec 32 := (nIn k, nAt k, nBi k, nHi k)
/-- What the second loop carries before trip `k`. -/
abbrev carry2 (k : ℕ) : BitVec 32 × BitVec 32 × BitVec 32 × BitVec 32 × BitVec 32 × BitVec 32 × BitVec 32 × BitVec 32 :=
  (nIn k, nAt k, nIn k, nAt k, nAt k, nOut k, nBi k, nHi k)

/-! ## Offsets of a block, a slot, a cell -/

abbrev blkOff (b : Fin 12) : Fin 4 → Nat := ![b.val / 6, 0, 64 * (b.val % 6), 0]
abbrev rowOff (b : Fin 12) : Fin 4 → Nat := ![b.val / 6, b.val % 6, 0, 0]
abbrev slotOff (s : Fin 2) : Fin 5 → Nat := ![s.val, 0, 0, 0, 0]
abbrev semOff (s : Fin 2) : Fin 1 → Nat := ![s.val]
abbrev yOff (b : ℕ) : Fin 3 → Nat := ![b, 0, 0]

theorem blkOff_inb (b : Fin 12) : ∀ a, blkOff b a + S1x96x64x384.size a ≤ S2x96x384x384.size a := by revert b; decide
theorem rowOff_inb (b : Fin 12) : ∀ a, rowOff b a + S1x1x96x384.size a ≤ S2x6x96x384.size a := by revert b; decide
theorem slotOff_inb (s : Fin 2) : ∀ a, slotOff s a + S1x1x96x64x384.size a ≤ S2x1x96x64x384.size a := by revert s; decide
theorem slotOffH_inb (s : Fin 2) : ∀ a, slotOff s a + S1x1x1x96x384.size a ≤ S2x1x1x96x384.size a := by revert s; decide
theorem semOff_inb (s : Fin 2) : ∀ a, semOff s a + S1.size a ≤ S2.size a := by revert s; decide

/-! ## The first loop -/

theorem chk1_ok : ∀ k : Fin k0_t1_loop.trips, k0_chk1 k (nIn k) (nAt k) (nBi k) (nHi k) := by decide +kernel
theorem chk2_ok : ∀ k : Fin k0_t1_loop.trips, k0_chk2 (nAt k) := by decide +kernel
/-- The next block is started at every trip but the last, -/
theorem cond1_pos : ∀ k : Fin k0_t1_loop.trips, k.val < 11 → k0_cond1 k (nBi k) (nHi k) = 1#1 := by decide +kernel
theorem cond1_neg : ∀ k : Fin k0_t1_loop.trips, ¬k.val < 11 → ¬k0_cond1 k (nBi k) (nHi k) = 1#1 := by decide +kernel
/-- the trip's own block is always awaited; -/
theorem cond2_pos : ∀ k : Fin k0_t1_loop.trips, k0_cond2 k (nBi k) (nHi k) = 1#1 := by decide +kernel
/-- the sums are set at an image's first row block and added to at the others. -/
theorem cond3_pos : ∀ k : Fin k0_t1_loop.trips, k.val % 6 = 0 → k0_cond3 (nHi k) = 1#1 := by decide +kernel
theorem cond3_neg : ∀ k : Fin k0_t1_loop.trips, ¬k.val % 6 = 0 → ¬k0_cond3 (nHi k) = 1#1 := by decide +kernel
theorem cond4_neg : ∀ k : Fin k0_t1_loop.trips, k.val % 6 = 0 → ¬k0_cond4 (nHi k) = 1#1 := by decide +kernel
theorem cond4_pos : ∀ k : Fin k0_t1_loop.trips, ¬k.val % 6 = 0 → k0_cond4 (nHi k) = 1#1 := by decide +kernel

theorem off3_eq : ∀ k : Fin k0_t1_loop.trips, k.val < 11 → k0_off3 (nIn k) = semOff (Ring.sl 2 (k.val + 1)) := by decide +kernel
theorem off4_eq : ∀ k : Fin k0_t1_loop.trips, k.val < 11 → k0_off4 (nIn k) = slotOff (Ring.sl 2 (k.val + 1)) := by decide +kernel
theorem off5_eq : ∀ k : Fin k0_t1_loop.trips, k.val < 11 → k0_off5 (nBi k) (nHi k) = blkOff (Ring.bk 12 (k.val + 1)) := by decide +kernel
theorem off6_eq : ∀ k : Fin k0_t1_loop.trips, k0_off6 (nAt k) = semOff (Ring.sl 2 k.val) := by decide +kernel
theorem off7_eq : ∀ k : Fin k0_t1_loop.trips, k0_off7 (nAt k) = slotOff (Ring.sl 2 k.val) := by decide +kernel
theorem off8_eq : ∀ k : Fin k0_t1_loop.trips, k0_off8 (nBi k) (nHi k) = blkOff (Ring.bk 12 k.val) := by decide +kernel
theorem off9_eq : ∀ k : Fin k0_t1_loop.trips, k0_off9 (nAt k) = slotOff (Ring.sl 2 k.val) := by decide +kernel
theorem off10_eq : ∀ k : Fin k0_t1_loop.trips, k0_off10 (nBi k) = yOff (k.val / 6 % 2) := by decide +kernel
theorem off11_eq : ∀ k : Fin k0_t1_loop.trips, k0_off11 (nBi k) = yOff (k.val / 6 % 2) := by decide +kernel

/-! ## The second loop -/

theorem chk3_ok : ∀ k : Fin k0_t2_loop.trips, k0_chk3 k (nIn k) (nAt k) (nIn k) (nAt k) (nAt k) (nOut k) (nBi k) (nHi k) := by decide +kernel
theorem chk4_ok : ∀ k : Fin k0_t2_loop.trips, k0_chk4 (nBi k) := by decide +kernel
theorem chk5_ok : ∀ k : Fin k0_t2_loop.trips, k0_chk5 (nAt k) := by decide +kernel
theorem chk6_ok : ∀ k : Fin k0_t2_loop.trips, k0_chk6 (nAt k) := by decide +kernel
theorem chk7_ok : ∀ k : Fin k0_t2_loop.trips, k0_chk7 (nAt k) := by decide +kernel
/-- The next block and its halo row are started at every trip but the last, -/
theorem cond7_pos : ∀ k : Fin k0_t2_loop.trips, k.val < 11 → k0_cond7 k (nBi k) (nHi k) = 1#1 := by decide +kernel
theorem cond7_neg : ∀ k : Fin k0_t2_loop.trips, ¬k.val < 11 → ¬k0_cond7 k (nBi k) (nHi k) = 1#1 := by decide +kernel
theorem cond8_pos : ∀ k : Fin k0_t2_loop.trips, k.val < 11 → k0_cond8 k (nBi k) (nHi k) = 1#1 := by decide +kernel
theorem cond8_neg : ∀ k : Fin k0_t2_loop.trips, ¬k.val < 11 → ¬k0_cond8 k (nBi k) (nHi k) = 1#1 := by decide +kernel
/-- the trip's own are always awaited, its result block always started out, -/
theorem cond9_pos : ∀ k : Fin k0_t2_loop.trips, k0_cond9 k (nBi k) (nHi k) = 1#1 := by decide +kernel
theorem cond10_pos : ∀ k : Fin k0_t2_loop.trips, k0_cond10 k (nBi k) (nHi k) = 1#1 := by decide +kernel
theorem cond14_pos : ∀ k : Fin k0_t2_loop.trips, k0_cond14 k (nBi k) (nHi k) = 1#1 := by decide +kernel
/-- and the result block before it awaited, at every trip but the first. -/
theorem cond17_pos : ∀ k : Fin k0_t2_loop.trips, 0 < k.val → k0_cond17 k (nBi k) (nHi k) = 1#1 := by decide +kernel
theorem cond17_neg : ∀ k : Fin k0_t2_loop.trips, ¬0 < k.val → ¬k0_cond17 k (nBi k) (nHi k) = 1#1 := by decide +kernel

theorem off13_eq : ∀ k : Fin k0_t2_loop.trips, k.val < 11 → k0_off13 (nIn k) = semOff (Ring.sl 2 (k.val + 1)) := by decide +kernel
theorem off14_eq : ∀ k : Fin k0_t2_loop.trips, k.val < 11 → k0_off14 (nIn k) = slotOff (Ring.sl 2 (k.val + 1)) := by decide +kernel
theorem off15_eq : ∀ k : Fin k0_t2_loop.trips, k.val < 11 → k0_off15 (nBi k) (nHi k) = blkOff (Ring.bk 12 (k.val + 1)) := by decide +kernel
theorem off16_eq : ∀ k : Fin k0_t2_loop.trips, k.val < 11 → k0_off16 (nIn k) = semOff (Ring.sl 2 (k.val + 1)) := by decide +kernel
theorem off17_eq : ∀ k : Fin k0_t2_loop.trips, k.val < 11 → k0_off17 (nIn k) = slotOff (Ring.sl 2 (k.val + 1)) := by decide +kernel
theorem off18_eq : ∀ k : Fin k0_t2_loop.trips, k.val < 11 → k0_off18 (nBi k) (nHi k) = rowOff (Ring.bk 12 (k.val + 1)) := by decide +kernel
theorem off19_eq : ∀ k : Fin k0_t2_loop.trips, k0_off19 (nAt k) = semOff (Ring.sl 2 k.val) := by decide +kernel
theorem off20_eq : ∀ k : Fin k0_t2_loop.trips, k0_off20 (nAt k) = slotOff (Ring.sl 2 k.val) := by decide +kernel
theorem off21_eq : ∀ k : Fin k0_t2_loop.trips, k0_off21 (nBi k) (nHi k) = blkOff (Ring.bk 12 k.val) := by decide +kernel
theorem off22_eq : ∀ k : Fin k0_t2_loop.trips, k0_off22 (nAt k) = semOff (Ring.sl 2 k.val) := by decide +kernel
theorem off23_eq : ∀ k : Fin k0_t2_loop.trips, k0_off23 (nAt k) = slotOff (Ring.sl 2 k.val) := by decide +kernel
theorem off24_eq : ∀ k : Fin k0_t2_loop.trips, k0_off24 (nBi k) (nHi k) = rowOff (Ring.bk 12 k.val) := by decide +kernel
theorem off25_eq : ∀ k : Fin k0_t2_loop.trips, k0_off25 (nBi k) = yOff (k.val / 6 % 2) := by decide +kernel
theorem off26_eq : ∀ k : Fin k0_t2_loop.trips, k0_off26 (nAt k) = slotOff (Ring.sl 2 k.val) := by decide +kernel
theorem off27_eq : ∀ k : Fin k0_t2_loop.trips, k0_off27 (nAt k) = slotOff (Ring.sl 2 k.val) := by decide +kernel
theorem off28_eq : ∀ k : Fin k0_t2_loop.trips, k0_off28 (nAt k) = slotOff (Ring.sl 2 k.val) := by decide +kernel
theorem off29_eq : ∀ k : Fin k0_t2_loop.trips, k0_off29 (nAt k) = semOff (Ring.sl 2 k.val) := by decide +kernel
theorem off30_eq : ∀ k : Fin k0_t2_loop.trips, k0_off30 (nBi k) (nHi k) = blkOff (Ring.bk 12 k.val) := by decide +kernel
theorem off31_eq : ∀ k : Fin k0_t2_loop.trips, k0_off31 (nAt k) = slotOff (Ring.sl 2 k.val) := by decide +kernel
theorem off32_eq : ∀ k : Fin k0_t2_loop.trips, 0 < k.val → k0_off32 (nOut k) = semOff (Ring.sl 2 (k.val + 1)) := by decide +kernel
theorem off33_eq : ∀ k : Fin k0_t2_loop.trips, 0 < k.val → k0_off33 (nBi k) (nHi k) = blkOff (Ring.bk 12 (k.val - 1)) := by decide +kernel
theorem off34_eq : ∀ k : Fin k0_t2_loop.trips, 0 < k.val → k0_off34 (nOut k) = slotOff (Ring.sl 2 (k.val + 1)) := by decide +kernel

/-! ## After the second loop: the last result block, number 11, in slot 1 -/

theorem chk8_ok : k0_chk8 (nOut 12) := by decide +kernel
theorem chk9_ok : k0_chk9 (nHi 12) (nBi 12) := by decide +kernel
theorem off35_eq : k0_off35 (nOut 12) = semOff 1 := by decide +kernel
theorem off36_eq : k0_off36 (nHi 12) (nBi 12) = blkOff 11 := by decide +kernel
theorem off37_eq : k0_off37 (nOut 12) = slotOff 1 := by decide +kernel

end Cert.Proof.KernelIdeal

end
-- ==== Proof.KernelIdeal.Names.lean ====
/-
  Canonical names for what the body slices: block `b` of the image and of the result, halo row `b`, the two
  slots of each staging ring and the cells they are awaited on; and the equations that say the body's own
  slices, at the carried words, are these.
-/
module

public import proofs.«01_k».proof.Proof.KernelIdeal.Words
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Tactic
public import Idealize.ShloMosaic.Lib.VecWindow

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the pipeline's own, beside the counters of the kernel's transfers -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The arrays and the rings -/

abbrev xM : Memref sig .tc .hbm S2x96x384x384 .f32 := Memref.whole main_arg0
abbrev hM : Memref sig .tc .hbm S2x6x96x384 .f32 := Memref.whole main_call0_v3
abbrev oM : Memref sig .tc .hbm S2x96x384x384 .f32 := Memref.whole main_v0
abbrev yM : Memref sig .tc .vmem S2x1x96 .f32 := Memref.whole cc0_scratch0
abbrev ringA : Memref sig .tc .vmem S2x1x96x64x384 .f32 := Memref.whole cc0_scoped0
abbrev ringB : Memref sig .tc .vmem S2x1x96x64x384 .f32 := Memref.whole cc0_scoped2
abbrev ringC : Memref sig .tc .vmem S2x1x1x96x384 .f32 := Memref.whole cc0_scoped4
abbrev ringD : Memref sig .tc .vmem S2x1x96x64x384 .f32 := Memref.whole cc0_scoped6

/-- Block `b` of the image, halo row `b`, block `b` of the result. -/
def xblk (b : Fin 12) : Memref sig .tc .hbm S1x96x64x384 .f32 :=
  xM.slice (Rect.unit (s := S2x96x384x384) (blkOff b) S1x96x64x384.size (blkOff_inb b)) (fun _ => rfl)
def hblk (b : Fin 12) : Memref sig .tc .hbm S1x1x96x384 .f32 :=
  hM.slice (Rect.unit (s := S2x6x96x384) (rowOff b) S1x1x96x384.size (rowOff_inb b)) (fun _ => rfl)
def oblk (b : Fin 12) : Memref sig .tc .hbm S1x96x64x384 .f32 :=
  oM.slice (Rect.unit (s := S2x96x384x384) (blkOff b) S1x96x64x384.size (blkOff_inb b)) (fun _ => rfl)

/-- Slot `s` of each ring. -/
def slA (s : Fin 2) : Memref sig .tc .vmem S1x96x64x384 .f32 :=
  (ringA.slice (Rect.unit (s := S2x1x96x64x384) (slotOff s) S1x1x96x64x384.size (slotOff_inb s)) (fun _ => rfl)).squeeze S1x96x64x384 squeezes_S1x1x96x64x384_S1x96x64x384
def slB (s : Fin 2) : Memref sig .tc .vmem S1x96x64x384 .f32 :=
  (ringB.slice (Rect.unit (s := S2x1x96x64x384) (slotOff s) S1x1x96x64x384.size (slotOff_inb s)) (fun _ => rfl)).squeeze S1x96x64x384 squeezes_S1x1x96x64x384_S1x96x64x384
def slC (s : Fin 2) : Memref sig .tc .vmem S1x1x96x384 .f32 :=
  (ringC.slice (Rect.unit (s := S2x1x1x96x384) (slotOff s) S1x1x1x96x384.size (slotOffH_inb s)) (fun _ => rfl)).squeeze S1x1x96x384 squeezes_S1x1x1x96x384_S1x1x96x384
def slD (s : Fin 2) : Memref sig .tc .vmem S1x96x64x384 .f32 :=
  (ringD.slice (Rect.unit (s := S2x1x96x64x384) (slotOff s) S1x1x96x64x384.size (slotOff_inb s)) (fun _ => rfl)).squeeze S1x96x64x384 squeezes_S1x1x96x64x384_S1x96x64x384

/-- The cells the rings are awaited on. -/
def cmA (s : Fin 2) : DmaSems sig S_ := (cc0_scoped1.slice (Rect.unit (s := S2) (semOff s) S1.size (semOff_inb s))).squeeze S_ squeezes_S1_S_
def cmB (s : Fin 2) : DmaSems sig S_ := (cc0_scoped3.slice (Rect.unit (s := S2) (semOff s) S1.size (semOff_inb s))).squeeze S_ squeezes_S1_S_
def cmC (s : Fin 2) : DmaSems sig S_ := (cc0_scoped5.slice (Rect.unit (s := S2) (semOff s) S1.size (semOff_inb s))).squeeze S_ squeezes_S1_S_
def cmD (s : Fin 2) : DmaSems sig S_ := (cc0_scoped7.slice (Rect.unit (s := S2) (semOff s) S1.size (semOff_inb s))).squeeze S_ squeezes_S1_S_

instance (s : Fin 2) : ClosedOff (slotOff s) := ⟨slotOff s, rfl⟩
instance (b : Fin 12) : ClosedOff (blkOff b) := ⟨blkOff b, rfl⟩
instance (b : Fin 12) : ClosedOff (rowOff b) := ⟨rowOff b, rfl⟩

instance (k : Fin k0_t1_loop.trips) : ClosedOff (k0_off9 (nAt k)) := ⟨slotOff (Ring.sl 2 k.val), off9_eq k⟩
instance (k : Fin k0_t1_loop.trips) : ClosedOff (k0_off7 (nAt k)) := ⟨slotOff (Ring.sl 2 k.val), off7_eq k⟩
instance (k : Fin k0_t2_loop.trips) : ClosedOff (k0_off20 (nAt k)) := ⟨slotOff (Ring.sl 2 k.val), off20_eq k⟩
instance (k : Fin k0_t2_loop.trips) : ClosedOff (k0_off23 (nAt k)) := ⟨slotOff (Ring.sl 2 k.val), off23_eq k⟩
instance (k : Fin k0_t2_loop.trips) : ClosedOff (k0_off26 (nAt k)) := ⟨slotOff (Ring.sl 2 k.val), off26_eq k⟩
instance (k : Fin k0_t2_loop.trips) : ClosedOff (k0_off27 (nAt k)) := ⟨slotOff (Ring.sl 2 k.val), off27_eq k⟩
instance (k : Fin k0_t2_loop.trips) : ClosedOff (k0_off28 (nAt k)) := ⟨slotOff (Ring.sl 2 k.val), off28_eq k⟩
instance (k : Fin k0_t2_loop.trips) : ClosedOff (k0_off31 (nAt k)) := ⟨slotOff (Ring.sl 2 k.val), off31_eq k⟩

/-- A whole load after a transfer that filled the view reads the transfer's words. -/
theorem slot_load {sp : Space} {s : Shape} {e : EltTy} (v : View sig .tc sp s e) {off : Fin s.rank → ℕ}
    (inb : ∀ a, off a + s.size a ≤ s.size a) (w : s.Idx → Elt F e) (L : List (View.Piece (Elt F) s e)) :
    v.readCov (⟨Rect.whole s, w⟩ :: L) (Rect.unit off s.size inb).toLoadRect = w :=
  View.readCov_full v inb (off' := fun _ => 0) (fun a => by simp) w L

/-! ## The body's slices under these names -/

section Canon

private theorem cmA_congr {off : Fin 1 → Nat} {s : Fin 2} (e : off = semOff s) (hh) :
    (cc0_scoped1.slice (Rect.unit (s := S2) off S1.size hh)).squeeze S_ squeezes_S1_S_ = cmA s := by subst e; rfl
private theorem cmB_congr {off : Fin 1 → Nat} {s : Fin 2} (e : off = semOff s) (hh) :
    (cc0_scoped3.slice (Rect.unit (s := S2) off S1.size hh)).squeeze S_ squeezes_S1_S_ = cmB s := by subst e; rfl
private theorem cmC_congr {off : Fin 1 → Nat} {s : Fin 2} (e : off = semOff s) (hh) :
    (cc0_scoped5.slice (Rect.unit (s := S2) off S1.size hh)).squeeze S_ squeezes_S1_S_ = cmC s := by subst e; rfl
private theorem cmD_congr {off : Fin 1 → Nat} {s : Fin 2} (e : off = semOff s) (hh) :
    (cc0_scoped7.slice (Rect.unit (s := S2) off S1.size hh)).squeeze S_ squeezes_S1_S_ = cmD s := by subst e; rfl
private theorem slA_congr {off : Fin 5 → Nat} {s : Fin 2} (e : off = slotOff s) (hh hs) :
    (ringA.slice (Rect.unit (s := S2x1x96x64x384) off S1x1x96x64x384.size hh) hs).squeeze S1x96x64x384 squeezes_S1x1x96x64x384_S1x96x64x384 = slA s := by subst e; rfl
private theorem slB_congr {off : Fin 5 → Nat} {s : Fin 2} (e : off = slotOff s) (hh hs) :
    (ringB.slice (Rect.unit (s := S2x1x96x64x384) off S1x1x96x64x384.size hh) hs).squeeze S1x96x64x384 squeezes_S1x1x96x64x384_S1x96x64x384 = slB s := by subst e; rfl
private theorem slC_congr {off : Fin 5 → Nat} {s : Fin 2} (e : off = slotOff s) (hh hs) :
    (ringC.slice (Rect.unit (s := S2x1x1x96x384) off S1x1x1x96x384.size hh) hs).squeeze S1x1x96x384 squeezes_S1x1x1x96x384_S1x1x96x384 = slC s := by subst e; rfl
private theorem slD_congr {off : Fin 5 → Nat} {s : Fin 2} (e : off = slotOff s) (hh hs) :
    (ringD.slice (Rect.unit (s := S2x1x96x64x384) off S1x1x96x64x384.size hh) hs).squeeze S1x96x64x384 squeezes_S1x1x96x64x384_S1x96x64x384 = slD s := by subst e; rfl
private theorem xblk_congr {off : Fin 4 → Nat} {b : Fin 12} (e : off = blkOff b) (hh hs) :
    xM.slice (Rect.unit (s := S2x96x384x384) off S1x96x64x384.size hh) hs = xblk b := by subst e; rfl
private theorem hblk_congr {off : Fin 4 → Nat} {b : Fin 12} (e : off = rowOff b) (hh hs) :
    hM.slice (Rect.unit (s := S2x6x96x384) off S1x1x96x384.size hh) hs = hblk b := by subst e; rfl
private theorem oblk_congr {off : Fin 4 → Nat} {b : Fin 12} (e : off = blkOff b) (hh hs) :
    oM.slice (Rect.unit (s := S2x96x384x384) off S1x96x64x384.size hh) hs = oblk b := by subst e; rfl

/-- The two prologues: block 0 into slot 0. -/
theorem off1_eq : k0_off1 = semOff 0 := by decide +kernel
theorem off2_eq : k0_off2 = slotOff 0 := by decide +kernel
theorem off12_eq : k0_off12 = slotOff 0 := by decide +kernel
@[sl_canon] theorem cmA_0 (hh) : (cc0_scoped1.slice (Rect.unit (s := S2) k0_off1 S1.size hh)).squeeze S_ squeezes_S1_S_ = cmA 0 := cmA_congr off1_eq _
@[sl_canon] theorem cmB_0 (hh) : (cc0_scoped3.slice (Rect.unit (s := S2) k0_off1 S1.size hh)).squeeze S_ squeezes_S1_S_ = cmB 0 := cmB_congr off1_eq _
@[sl_canon] theorem cmC_0 (hh) : (cc0_scoped5.slice (Rect.unit (s := S2) k0_off1 S1.size hh)).squeeze S_ squeezes_S1_S_ = cmC 0 := cmC_congr off1_eq _
@[sl_canon] theorem slA_0 (hh hs) : (ringA.slice (Rect.unit (s := S2x1x96x64x384) k0_off2 S1x1x96x64x384.size hh) hs).squeeze S1x96x64x384 squeezes_S1x1x96x64x384_S1x96x64x384 = slA 0 := slA_congr off2_eq _ _
@[sl_canon] theorem slB_0 (hh hs) : (ringB.slice (Rect.unit (s := S2x1x96x64x384) k0_off2 S1x1x96x64x384.size hh) hs).squeeze S1x96x64x384 squeezes_S1x1x96x64x384_S1x96x64x384 = slB 0 := slB_congr off2_eq _ _
@[sl_canon] theorem slC_0 (hh hs) : (ringC.slice (Rect.unit (s := S2x1x1x96x384) k0_off12 S1x1x1x96x384.size hh) hs).squeeze S1x1x96x384 squeezes_S1x1x1x96x384_S1x1x96x384 = slC 0 := slC_congr off12_eq _ _
@[sl_canon] theorem xblk_0 (hh hs) : xM.slice (Rect.unit (s := S2x96x384x384) ![0, 0, 0, 0] S1x96x64x384.size hh) hs = xblk 0 := xblk_congr (by decide) _ _
@[sl_canon] theorem hblk_0 (hh hs) : hM.slice (Rect.unit (s := S2x6x96x384) ![0, 0, 0, 0] S1x1x96x384.size hh) hs = hblk 0 := hblk_congr (by decide) _ _

section One
variable (k : Fin k0_t1_loop.trips)
@[sl_canon] theorem cmA_i (hk : k.val < 11) (hh) : (cc0_scoped1.slice (Rect.unit (s := S2) (k0_off3 (nIn k)) S1.size hh)).squeeze S_ squeezes_S1_S_ = cmA (Ring.sl 2 (k.val + 1)) := cmA_congr (off3_eq k hk) _
@[sl_canon] theorem slA_i (hk : k.val < 11) (hh hs) : (ringA.slice (Rect.unit (s := S2x1x96x64x384) (k0_off4 (nIn k)) S1x1x96x64x384.size hh) hs).squeeze S1x96x64x384 squeezes_S1x1x96x64x384_S1x96x64x384 = slA (Ring.sl 2 (k.val + 1)) := slA_congr (off4_eq k hk) _ _
@[sl_canon] theorem xblk_i (hk : k.val < 11) (hh hs) : xM.slice (Rect.unit (s := S2x96x384x384) (k0_off5 (nBi k) (nHi k)) S1x96x64x384.size hh) hs = xblk (Ring.bk 12 (k.val + 1)) := xblk_congr (off5_eq k hk) _ _
@[sl_canon] theorem cmA_w (hh) : (cc0_scoped1.slice (Rect.unit (s := S2) (k0_off6 (nAt k)) S1.size hh)).squeeze S_ squeezes_S1_S_ = cmA (Ring.sl 2 k.val) := cmA_congr (off6_eq k) _
@[sl_canon] theorem slA_w (hh hs) : (ringA.slice (Rect.unit (s := S2x1x96x64x384) (k0_off7 (nAt k)) S1x1x96x64x384.size hh) hs).squeeze S1x96x64x384 squeezes_S1x1x96x64x384_S1x96x64x384 = slA (Ring.sl 2 k.val) := slA_congr (off7_eq k) _ _
@[sl_canon] theorem slA_l (hh hs) : (ringA.slice (Rect.unit (s := S2x1x96x64x384) (k0_off9 (nAt k)) S1x1x96x64x384.size hh) hs).squeeze S1x96x64x384 squeezes_S1x1x96x64x384_S1x96x64x384 = slA (Ring.sl 2 k.val) := slA_congr (off9_eq k) _ _
@[sl_canon] theorem xblk_w (hh hs) : xM.slice (Rect.unit (s := S2x96x384x384) (k0_off8 (nBi k) (nHi k)) S1x96x64x384.size hh) hs = xblk (Ring.bk 12 k.val) := xblk_congr (off8_eq k) _ _
end One

section Two
variable (k : Fin k0_t2_loop.trips)
@[sl_canon] theorem cmB_i (hk : k.val < 11) (hh) : (cc0_scoped3.slice (Rect.unit (s := S2) (k0_off13 (nIn k)) S1.size hh)).squeeze S_ squeezes_S1_S_ = cmB (Ring.sl 2 (k.val + 1)) := cmB_congr (off13_eq k hk) _
@[sl_canon] theorem slB_i (hk : k.val < 11) (hh hs) : (ringB.slice (Rect.unit (s := S2x1x96x64x384) (k0_off14 (nIn k)) S1x1x96x64x384.size hh) hs).squeeze S1x96x64x384 squeezes_S1x1x96x64x384_S1x96x64x384 = slB (Ring.sl 2 (k.val + 1)) := slB_congr (off14_eq k hk) _ _
@[sl_canon] theorem xblk_i2 (hk : k.val < 11) (hh hs) : xM.slice (Rect.unit (s := S2x96x384x384) (k0_off15 (nBi k) (nHi k)) S1x96x64x384.size hh) hs = xblk (Ring.bk 12 (k.val + 1)) := xblk_congr (off15_eq k hk) _ _
@[sl_canon] theorem cmC_i (hk : k.val < 11) (hh) : (cc0_scoped5.slice (Rect.unit (s := S2) (k0_off16 (nIn k)) S1.size hh)).squeeze S_ squeezes_S1_S_ = cmC (Ring.sl 2 (k.val + 1)) := cmC_congr (off16_eq k hk) _
@[sl_canon] theorem slC_i (hk : k.val < 11) (hh hs) : (ringC.slice (Rect.unit (s := S2x1x1x96x384) (k0_off17 (nIn k)) S1x1x1x96x384.size hh) hs).squeeze S1x1x96x384 squeezes_S1x1x1x96x384_S1x1x96x384 = slC (Ring.sl 2 (k.val + 1)) := slC_congr (off17_eq k hk) _ _
@[sl_canon] theorem hblk_i (hk : k.val < 11) (hh hs) : hM.slice (Rect.unit (s := S2x6x96x384) (k0_off18 (nBi k) (nHi k)) S1x1x96x384.size hh) hs = hblk (Ring.bk 12 (k.val + 1)) := hblk_congr (off18_eq k hk) _ _
@[sl_canon] theorem cmB_w (hh) : (cc0_scoped3.slice (Rect.unit (s := S2) (k0_off19 (nAt k)) S1.size hh)).squeeze S_ squeezes_S1_S_ = cmB (Ring.sl 2 k.val) := cmB_congr (off19_eq k) _
@[sl_canon] theorem slB_w (hh hs) : (ringB.slice (Rect.unit (s := S2x1x96x64x384) (k0_off20 (nAt k)) S1x1x96x64x384.size hh) hs).squeeze S1x96x64x384 squeezes_S1x1x96x64x384_S1x96x64x384 = slB (Ring.sl 2 k.val) := slB_congr (off20_eq k) _ _
@[sl_canon] theorem xblk_w2 (hh hs) : xM.slice (Rect.unit (s := S2x96x384x384) (k0_off21 (nBi k) (nHi k)) S1x96x64x384.size hh) hs = xblk (Ring.bk 12 k.val) := xblk_congr (off21_eq k) _ _
@[sl_canon] theorem cmC_w (hh) : (cc0_scoped5.slice (Rect.unit (s := S2) (k0_off22 (nAt k)) S1.size hh)).squeeze S_ squeezes_S1_S_ = cmC (Ring.sl 2 k.val) := cmC_congr (off22_eq k) _
@[sl_canon] theorem slC_w (hh hs) : (ringC.slice (Rect.unit (s := S2x1x1x96x384) (k0_off23 (nAt k)) S1x1x1x96x384.size hh) hs).squeeze S1x1x96x384 squeezes_S1x1x1x96x384_S1x1x96x384 = slC (Ring.sl 2 k.val) := slC_congr (off23_eq k) _ _
@[sl_canon] theorem hblk_w (hh hs) : hM.slice (Rect.unit (s := S2x6x96x384) (k0_off24 (nBi k) (nHi k)) S1x1x96x384.size hh) hs = hblk (Ring.bk 12 k.val) := hblk_congr (off24_eq k) _ _
@[sl_canon] theorem slB_l (hh hs) : (ringB.slice (Rect.unit (s := S2x1x96x64x384) (k0_off26 (nAt k)) S1x1x96x64x384.size hh) hs).squeeze S1x96x64x384 squeezes_S1x1x96x64x384_S1x96x64x384 = slB (Ring.sl 2 k.val) := slB_congr (off26_eq k) _ _
@[sl_canon] theorem slC_l (hh hs) : (ringC.slice (Rect.unit (s := S2x1x1x96x384) (k0_off27 (nAt k)) S1x1x1x96x384.size hh) hs).squeeze S1x1x96x384 squeezes_S1x1x1x96x384_S1x1x96x384 = slC (Ring.sl 2 k.val) := slC_congr (off27_eq k) _ _
@[sl_canon] theorem slD_l (hh hs) : (ringD.slice (Rect.unit (s := S2x1x96x64x384) (k0_off28 (nAt k)) S1x1x96x64x384.size hh) hs).squeeze S1x96x64x384 squeezes_S1x1x96x64x384_S1x96x64x384 = slD (Ring.sl 2 k.val) := slD_congr (off28_eq k) _ _
@[sl_canon] theorem cmD_i (hh) : (cc0_scoped7.slice (Rect.unit (s := S2) (k0_off29 (nAt k)) S1.size hh)).squeeze S_ squeezes_S1_S_ = cmD (Ring.sl 2 k.val) := cmD_congr (off29_eq k) _
@[sl_canon] theorem oblk_i (hh hs) : oM.slice (Rect.unit (s := S2x96x384x384) (k0_off30 (nBi k) (nHi k)) S1x96x64x384.size hh) hs = oblk (Ring.bk 12 k.val) := oblk_congr (off30_eq k) _ _
@[sl_canon] theorem slD_i (hh hs) : (ringD.slice (Rect.unit (s := S2x1x96x64x384) (k0_off31 (nAt k)) S1x1x96x64x384.size hh) hs).squeeze S1x96x64x384 squeezes_S1x1x96x64x384_S1x96x64x384 = slD (Ring.sl 2 k.val) := slD_congr (off31_eq k) _ _
@[sl_canon] theorem cmD_w (hk : 0 < k.val) (hh) : (cc0_scoped7.slice (Rect.unit (s := S2) (k0_off32 (nOut k)) S1.size hh)).squeeze S_ squeezes_S1_S_ = cmD (Ring.sl 2 (k.val + 1)) := cmD_congr (off32_eq k hk) _
@[sl_canon] theorem oblk_w (hk : 0 < k.val) (hh hs) : oM.slice (Rect.unit (s := S2x96x384x384) (k0_off33 (nBi k) (nHi k)) S1x96x64x384.size hh) hs = oblk (Ring.bk 12 (k.val - 1)) := oblk_congr (off33_eq k hk) _ _
@[sl_canon] theorem slD_w (hk : 0 < k.val) (hh hs) : (ringD.slice (Rect.unit (s := S2x1x96x64x384) (k0_off34 (nOut k)) S1x1x96x64x384.size hh) hs).squeeze S1x96x64x384 squeezes_S1x1x96x64x384_S1x96x64x384 = slD (Ring.sl 2 (k.val + 1)) := slD_congr (off34_eq k hk) _ _
end Two

/-- The epilogue: result block 11 in slot 1. -/
@[sl_canon] theorem cmD_e (hh) : (cc0_scoped7.slice (Rect.unit (s := S2) (k0_off35 (nOut 12)) S1.size hh)).squeeze S_ squeezes_S1_S_ = cmD 1 := cmD_congr off35_eq _
@[sl_canon] theorem oblk_e (hh hs) : oM.slice (Rect.unit (s := S2x96x384x384) (k0_off36 (nHi 12) (nBi 12)) S1x96x64x384.size hh) hs = oblk 11 := oblk_congr off36_eq _ _
@[sl_canon] theorem slD_e (hh hs) : (ringD.slice (Rect.unit (s := S2x1x96x64x384) (k0_off37 (nOut 12)) S1x1x96x64x384.size hh) hs).squeeze S1x96x64x384 squeezes_S1x1x96x64x384_S1x96x64x384 = slD 1 := slD_congr off37_eq _ _

end Canon

end Cert.Proof.KernelIdeal

end
-- ==== Proof.KernelIdeal.LoopOne.lean ====
/-
  The first loop: trip `k` starts block `k + 1`, awaits block `k`, and sets or adds to its image's channel
  sums.
-/
module

public import proofs.«01_k».proof.Proof.KernelIdeal.Names

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Pieces
variable (c : Dev nD) (XA : Buf (Elt F) (xM.view.loc (c : Thread nD τ)))

/-- Block `b` of the image at home, at the image's contents. -/
abbrev homeX (b : Fin 12) : sProp 𝕄 := (xblk b).view.loc (c : Thread nD τ) ↦[(xblk b).view.set]{fullShare} XA

/-- Slot `s` of the first loop's ring, its cell, what block `b`'s arrival leaves there, and the arrival pending. -/
abbrev cellA (s : Fin 2) : sProp 𝕄 := semVal ((c : Thread nD τ), SemLoc.dma (cmA s).sem) 0
abbrev slotA (s : Fin 2) (f : Buf (Elt F) ((slA s).view.loc (c : Thread nD τ))) : sProp 𝕄 :=
  (slA s).view.loc (c : Thread nD τ) ↦[(slA s).view.set]{fullShare} f
abbrev landedA (s : Fin 2) (b : Fin 12) (f : Buf (Elt F) ((slA s).view.loc (c : Thread nD τ))) : Buf (Elt F) ((slA s).view.loc (c : Thread nD τ)) :=
  (slA s).view.writes (Elt F) f [⟨Rect.whole S1x96x64x384, ReadAs.same.apply ((xblk b).view.read (Elt F) XA)⟩]
abbrev flightA (s : Fin 2) (b : Fin 12) (f : Buf (Elt F) ((slA s).view.loc (c : Thread nD τ))) : sProp 𝕄 :=
  Transfers.Flight countersEmb (c : Thread nD τ) (SemLoc.dma (cmA s).sem) () 294912 iprop(slotA c s (landedA c XA s b f) ∗ homeX c XA b)

/-- Trip `k`'s homes: block `k + 1`, about to go out, beside the rest; -/
theorem homesX_here (k : ℕ) (hk : k + 1 < 12) :
    bigSep (Ring.homeSet 1 k) (homeX c XA) = iprop(homeX c XA (Ring.bk 12 (k + 1)) ∗ bigSep ((Ring.homeSet 1 k).erase (Ring.bk 12 (k + 1))) (homeX c XA)) := by
  conv_lhs => rw [Ring.homeSet_out 1 k hk, bigSep_insert (Ring.bkL_not_mem_erase 1 k)]
  rfl
/-- trip `k + 1`'s: block `k`, just back, beside that rest. -/
theorem homesX_next (k : ℕ) (hk : k + 1 < 12) :
    bigSep (Ring.homeSet 1 (k + 1)) (homeX c XA) = iprop(homeX c XA (Ring.bk 12 k) ∗ bigSep ((Ring.homeSet 1 k).erase (Ring.bk 12 (k + 1))) (homeX c XA)) := by
  conv_lhs => rw [Ring.homeSet_succ 1 k hk, bigSep_insert (Ring.bk_not_mem_erase 1 k (by omega) (by decide))]
  rfl

/-- After the last trip: block `k`, just back, beside all the others. -/
theorem homesX_tail (k : ℕ) (h : 12 ≤ k + 1) (hk : k < 12) :
    bigSep (Ring.homeSet 1 (k + 1)) (homeX c XA) = iprop(homeX c XA (Ring.bk 12 k) ∗ bigSep (Ring.homeSet 1 k) (homeX c XA)) := by
  rw [Ring.homeSet_succ_tail 1 k h hk, bigSep_insert (Ring.bk_not_mem_homeSet 1 k hk (by decide))]
  rfl

abbrev yP (f : Buf (Elt F) (yM.view.loc (c : Thread nD τ))) : sProp 𝕄 := yM.view.loc (c : Thread nD τ) ↦[yM.view.set]{fullShare} f
end Pieces

/-! ## The channel sums -/

section Sums
variable (c : Dev nD) (XA : Buf (Elt F) (xM.view.loc (c : Thread nD τ)))

/-- Block `b` of the image. -/
abbrev xval (b : Fin 12) : Vec F S1x96x64x384 .f32 := (xblk b).view.read (Elt F) XA

/-- Image `i`'s channel sums after its row blocks `0 … j`, as the kernel adds them up. -/
def ySum (i : Fin 2) : ℕ → FVec F S1x1x96 .f32
  | 0 => k0_pay9 (k0_pay1 (xval c XA (Ring.bk 12 (6 * i.val))))
  | j + 1 => k0_pay10 (k0_pay1 (xval c XA (Ring.bk 12 (6 * i.val + (j + 1))))) (ySum i j)

/-- The rectangle of image `i` in the sums. -/
theorem yOff_inb (i : Fin 2) : ∀ a, yOff i.val a + S1x1x96.size a ≤ S2x1x96.size a := by revert i; decide
abbrev yRect (i : Fin 2) : Rect S2x1x96 := Rect.unit (s := S2x1x96) (yOff i.val) S1x1x96.size (yOff_inb i)

/-- Before block `k` every image begun holds the sums of its blocks so far. -/
def YsOK (k : ℕ) (f : Buf (Elt F) (yM.view.loc (c : Thread nD τ))) : Prop :=
  ∀ i : Fin 2, 6 * i.val < k → yM.view.readAt (Elt F) (yRect i).toLoadRect f = ySum c XA i (min (k - 6 * i.val) 6 - 1)

theorem yRect_disj {i i' : Fin 2} (h : i ≠ i') (j : (yRect i).shape.Idx) : (yRect i).toLoadRect.idx j ∉ (yRect i').set := by
  rw [Rect.mem_set_unit]
  intro H
  have h0 : i'.val ≤ i.val + 1 * (j 0).val ∧ i.val + 1 * (j 0).val < i'.val + 1 := H 0
  have hj : (j 0).val < 1 := (j 0).isLt
  exact h (Fin.ext (by omega))

/-- Image `i`'s rectangle, stored whole, reads what was stored; the other image's is untouched. -/
theorem y_read_same (i : Fin 2) (f : Buf (Elt F) (yM.view.loc (c : Thread nD τ))) (w : S1x1x96.Idx → Elt F .f32) :
    yM.view.readAt (Elt F) (yRect i).toLoadRect (yM.view.writes (Elt F) f [⟨yRect i, w⟩]) = w :=
  View.read_write_univ (v := yM.view.slice (yRect i)) _ w
theorem y_read_other {i i' : Fin 2} (h : i ≠ i') (f : Buf (Elt F) (yM.view.loc (c : Thread nD τ))) (w : S1x1x96.Idx → Elt F .f32) :
    yM.view.readAt (Elt F) (yRect i).toLoadRect (yM.view.writes (Elt F) f [⟨yRect i', w⟩]) = yM.view.readAt (Elt F) (yRect i).toLoadRect f :=
  View.readAt_writes_of_forall_not_mem _ _ _ _ (fun j p hp => by
    rw [List.mem_singleton.mp hp]; exact yRect_disj h j)

/-- The image of block `k`. -/
abbrev imgOf (k : ℕ) : Fin 2 := ⟨k / 6 % 2, Nat.mod_lt _ (by decide)⟩

/-- A row block's store: from sums right before it to sums right after it, given what it stores. -/
theorem ysOK_store (k : ℕ) (hk : k < 12) (f : Buf (Elt F) (yM.view.loc (c : Thread nD τ))) (hf : YsOK c XA k f)
    {off : Fin 3 → ℕ} (e : off = yOff (k / 6 % 2)) (hh) (w : S1x1x96.Idx → Elt F .f32) (hw : w = ySum c XA (imgOf k) (k % 6)) :
    YsOK c XA (k + 1) (yM.view.writes (Elt F) f [⟨Rect.unit (s := S2x1x96) off S1x1x96.size hh, w⟩]) := by
  subst e
  intro i hi
  by_cases h : i = imgOf k
  · subst h
    refine (y_read_same c (imgOf k) f w).trans (hw.trans ?_)
    congr 1
    have : (imgOf k).val = k / 6 % 2 := rfl
    omega
  · refine (y_read_other c h f w).trans ?_
    have hv : i.val ≠ k / 6 % 2 := fun e => h (Fin.ext e)
    have h2 := i.isLt
    rw [hf i (by omega)]
    congr 1
    omega

/-- What image `k / 6`'s rectangle holds before a row block that adds to it. -/
theorem ysOK_read (k : ℕ) (hk : k < 12) (h0 : ¬k % 6 = 0) (f : Buf (Elt F) (yM.view.loc (c : Thread nD τ))) (hf : YsOK c XA k f)
    {off : Fin 3 → ℕ} (e : off = yOff (k / 6 % 2)) (hh) :
    yM.view.readAt (Elt F) (Rect.unit (s := S2x1x96) off S1x1x96.size hh).toLoadRect f = ySum c XA (imgOf k) (k % 6 - 1) := by
  subst e
  refine (hf (imgOf k) (by show 6 * (k / 6 % 2) < k; omega)).trans ?_
  congr 1
  show min (k - 6 * (k / 6 % 2)) 6 - 1 = k % 6 - 1
  omega

theorem ySum_first (k : ℕ) (hk : k < 12) (h0 : k % 6 = 0) : k0_pay9 (k0_pay1 (xval c XA (Ring.bk 12 k))) = ySum c XA (imgOf k) (k % 6) := by
  rw [h0]
  show _ = k0_pay9 (k0_pay1 (xval c XA (Ring.bk 12 (6 * (k / 6 % 2)))))
  rw [show 6 * (k / 6 % 2) = k by omega]
theorem ySum_next (k : ℕ) (hk : k < 12) (h0 : ¬k % 6 = 0) :
    k0_pay10 (k0_pay1 (xval c XA (Ring.bk 12 k))) (ySum c XA (imgOf k) (k % 6 - 1)) = ySum c XA (imgOf k) (k % 6) := by
  obtain ⟨j, hj⟩ : ∃ j, k % 6 = j + 1 := ⟨k % 6 - 1, by omega⟩
  rw [hj]
  show _ = k0_pay10 (k0_pay1 (xval c XA (Ring.bk 12 (6 * (k / 6 % 2) + (j + 1))))) (ySum c XA (imgOf k) j)
  rw [show 6 * (k / 6 % 2) + (j + 1) = k by omega]; rfl

theorem sl2_succ2 (k : ℕ) : Ring.sl 2 (k + 1 + 1) = Ring.sl 2 k := by rw [show k + 1 + 1 = k + 2 from rfl, Ring.sl_add]

/-- The first loop's ring before trip `k`: block `k` on its way, the other slot and its cell free; nothing on its
    way after the last. -/
def ringAt1 (k : ℕ) : sProp 𝕄 :=
  iprop((if k < 12 then iprop(∃ f, flightA c XA (Ring.sl 2 k) (Ring.bk 12 k) f) else iprop(cellA c (Ring.sl 2 k) ∗ ∃ f, slotA c (Ring.sl 2 k) f))
    ∗ cellA c (Ring.sl 2 (k + 1)) ∗ (∃ f, slotA c (Ring.sl 2 (k + 1)) f))

/-- Everything the first loop holds before trip `k`. -/
def resAt1 (k : ℕ) : sProp 𝕄 :=
  iprop((∃ fy, ⌜YsOK c XA k fy⌝ ∗ yP c fy) ∗ (∃ W, owes (c : Thread nD τ) 0 W) ∗ bigSep (Ring.homeSet 1 k) (homeX c XA) ∗ ringAt1 c XA k)

theorem resAt1_lt (k : ℕ) (hk : k < 12) : resAt1 c XA k = iprop((∃ fy, ⌜YsOK c XA k fy⌝ ∗ yP c fy) ∗ (∃ W, owes (c : Thread nD τ) 0 W)
    ∗ bigSep (Ring.homeSet 1 k) (homeX c XA) ∗ (∃ f, flightA c XA (Ring.sl 2 k) (Ring.bk 12 k) f) ∗ cellA c (Ring.sl 2 (k + 1)) ∗ (∃ f, slotA c (Ring.sl 2 (k + 1)) f)) := by
  unfold resAt1 ringAt1; rw [if_pos hk]
theorem resAt1_last (k : ℕ) (hk : ¬k < 12) : resAt1 c XA k = iprop((∃ fy, ⌜YsOK c XA k fy⌝ ∗ yP c fy) ∗ (∃ W, owes (c : Thread nD τ) 0 W)
    ∗ bigSep (Ring.homeSet 1 k) (homeX c XA) ∗ (cellA c (Ring.sl 2 k) ∗ ∃ f, slotA c (Ring.sl 2 k) f) ∗ cellA c (Ring.sl 2 (k + 1)) ∗ (∃ f, slotA c (Ring.sl 2 (k + 1)) f)) := by
  unfold resAt1 ringAt1; rw [if_neg hk]

end Sums

section Trip
variable (c : Dev nD) (XA : Buf (Elt F) (xM.view.loc (c : Thread nD τ)))
  (arg2 : Memref sig .tc .vmem S96x6 .f32) (harg2 : arg2.IsWhole)
  (arg3 : Memref sig .tc .vmem S6x96 .f32) (harg3 : arg3.IsWhole)
  (arg4 : Memref sig .tc .vmem S96x96 .f32) (harg4 : arg4.IsWhole)
  (arg5 : Memref sig .tc .vmem S1x96 .f32) (harg5 : arg5.IsWhole)

abbrev tripG1 (k : Fin k0_t1_loop.trips) (acc : BitVec 32 × BitVec 32 × BitVec 32 × BitVec 32) :
    Prog (TpuEff nD τ sig (Elt F) Λ₀ .tc) (BitVec 32 × BitVec 32 × BitVec 32 × BitVec 32) :=
  k0_t1_body (F := F) xM (Memref.isWhole_whole _) hM (Memref.isWhole_whole _) arg2 harg2 arg3 harg3 arg4 harg4 arg5 harg5
    oM (Memref.isWhole_whole _) yM (Memref.isWhole_whole _) ringA (Memref.isWhole_whole _) cc0_scoped1 ringB (Memref.isWhole_whole _) cc0_scoped3
    ringC (Memref.isWhole_whole _) cc0_scoped5 ringD (Memref.isWhole_whole _) cc0_scoped7 k acc

/-- One trip before the last, at an image's first row block. -/
theorem trip1_first (k : Fin k0_t1_loop.trips) (h11 : k.val < 11) (h0 : k.val % 6 = 0) :
    resAt1 c XA k ⊢ wp frame (wpE (defs₀ (F := F)) 𝒱₀ (c : Thread nD τ) none) Set.univ (tripG1 arg2 harg2 arg3 harg3 arg4 harg4 arg5 harg5 k (carry1 k))
      (fun acc => iprop(⌜acc = carry1 (k + 1)⌝ ∗ resAt1 c XA (k + 1))) := by
  have hc1 := chk1_ok k
  have hc2 := chk2_ok k
  have hb1 := cond1_pos k h11
  have hb2 := cond2_pos k
  have hb3 := cond3_pos k h0
  have hb4 := cond4_neg k h0
  rw [resAt1_lt c XA k (by omega), resAt1_lt c XA (k + 1) (by omega), homesX_here c XA k.val (by omega), homesX_next c XA k.val (by omega), sl2_succ2]
  iintro ⟨⟨%fy, %hy, HY⟩, ⟨%W, HW⟩, ⟨Hx, Hrest⟩, ⟨%f0, HF⟩, Hc, ⟨%f1, Hs⟩⟩
  dsimp only [tripG1]
  sl_unfold [k0_t1_body]
  sl_exec
  sl_step
  isplitr
  · ipureintro; clear * - h11 h0; revert k; decide +kernel
  isplitl [HY]
  · iexists _; isplitr
    rotate_left 1
    · iexact HY
    · ipureintro
      refine ysOK_store c XA k (by omega) fy hy (off10_eq k) _ _ ?_
      rw [← ySum_first c XA k (by omega) h0]
      unfold trip1_first.sl.v153_r0 trip1_first.sl.v152_r0 trip1_first.sl.v151_r0 trip1_first.sl.v150_r0
      rw [slot_load]; rfl
  isplitl [HW]; · iexists _; iexact HW
  isplitl [HF_src Hrest]
  · isplitl [HF_src]; · iexact HF_src
    iexact Hrest
  isplitl [Hc]; · iexists f1; iexact Hc
  isplitl [HF]; · iexact HF
  iexists _; iexact HF_dst

/-- One trip before the last, at a later row block. -/
theorem trip1_next (k : Fin k0_t1_loop.trips) (h11 : k.val < 11) (h0 : ¬k.val % 6 = 0) :
    resAt1 c XA k ⊢ wp frame (wpE (defs₀ (F := F)) 𝒱₀ (c : Thread nD τ) none) Set.univ (tripG1 arg2 harg2 arg3 harg3 arg4 harg4 arg5 harg5 k (carry1 k))
      (fun acc => iprop(⌜acc = carry1 (k + 1)⌝ ∗ resAt1 c XA (k + 1))) := by
  have hc1 := chk1_ok k
  have hc2 := chk2_ok k
  have hb1 := cond1_pos k h11
  have hb2 := cond2_pos k
  have hb3 := cond3_neg k h0
  have hb4 := cond4_pos k h0
  rw [resAt1_lt c XA k (by omega), resAt1_lt c XA (k + 1) (by omega), homesX_here c XA k.val (by omega), homesX_next c XA k.val (by omega), sl2_succ2]
  iintro ⟨⟨%fy, %hy, HY⟩, ⟨%W, HW⟩, ⟨Hx, Hrest⟩, ⟨%f0, HF⟩, Hc, ⟨%f1, Hs⟩⟩
  dsimp only [tripG1]
  sl_unfold [k0_t1_body]
  sl_exec
  sl_step
  isplitr
  · ipureintro; clear * - h11 h0; revert k; decide +kernel
  isplitl [HY]
  · iexists _; isplitr
    rotate_left 1
    · iexact HY
    · ipureintro
      refine ysOK_store c XA k (by omega) fy hy (off11_eq k) _ _ ?_
      rw [← ySum_next c XA k (by omega) h0, ← ysOK_read c XA k (by omega) h0 fy hy (off11_eq k)]
      unfold trip1_next.sl.v153_r0 trip1_next.sl.v152_r0 trip1_next.sl.v151_r0 trip1_next.sl.v150_r0
      rw [slot_load]; rfl
  isplitl [HW]; · iexists _; iexact HW
  isplitl [HF_src Hrest]
  · isplitl [HF_src]; · iexact HF_src
    iexact Hrest
  isplitl [Hc]; · iexists f1; iexact Hc
  isplitl [HF]; · iexact HF
  iexists _; iexact HF_dst

/-- The last trip: nothing more is started. -/
theorem trip1_last (k : Fin k0_t1_loop.trips) (h11 : ¬k.val < 11) :
    resAt1 c XA k ⊢ wp frame (wpE (defs₀ (F := F)) 𝒱₀ (c : Thread nD τ) none) Set.univ (tripG1 arg2 harg2 arg3 harg3 arg4 harg4 arg5 harg5 k (carry1 k))
      (fun acc => iprop(⌜acc = carry1 (k + 1)⌝ ∗ resAt1 c XA (k + 1))) := by
  have h12 := lt12_1 k
  have h0 : ¬k.val % 6 = 0 := by omega
  have hc1 := chk1_ok k
  have hc2 := chk2_ok k
  have hb1 := cond1_neg k h11
  have hb2 := cond2_pos k
  have hb3 := cond3_neg k h0
  have hb4 := cond4_pos k h0
  rw [resAt1_lt c XA k (by omega), resAt1_last c XA (k + 1) (by omega), homesX_tail c XA k.val (by omega) h12, sl2_succ2]
  iintro ⟨⟨%fy, %hy, HY⟩, ⟨%W, HW⟩, Hrest, ⟨%f0, HF⟩, Hc, ⟨%f1, Hs⟩⟩
  dsimp only [tripG1]
  sl_unfold [k0_t1_body]
  sl_exec
  sl_step
  isplitr
  · ipureintro; clear * - h11 h0; revert k; decide +kernel
  isplitl [HY]
  · iexists _; isplitr
    rotate_left 1
    · iexact HY
    · ipureintro
      refine ysOK_store c XA k (by omega) fy hy (off11_eq k) _ _ ?_
      rw [← ySum_next c XA k (by omega) h0, ← ysOK_read c XA k (by omega) h0 fy hy (off11_eq k)]
      unfold trip1_last.sl.v153_r0 trip1_last.sl.v152_r0 trip1_last.sl.v151_r0 trip1_last.sl.v150_r0
      rw [slot_load]; rfl
  isplitl [HW]; · iexists _; iexact HW
  isplitl [HF_src Hrest]
  · isplitl [HF_src]; · iexact HF_src
    iexact Hrest
  isplitl [Hc Hs]
  · isplitl [Hc]; · iexact Hc
    iexists f1; iexact Hs
  isplitl [HF]; · iexact HF
  iexists _; iexact HF_dst

set_option warn.classDefReducibility false in
/-- The first loop's invariant: the carried words in closed form, and the resources of the trip. -/
@[sl_loop] def loopInv1 (init : BitVec 32 × BitVec 32 × BitVec 32 × BitVec 32) :
    LoopInvTy_k0_t1 (F := F) Unit ℕ (UU nD τ) ℕ 𝒱₀ c none Set.univ xM (Memref.isWhole_whole _) hM (Memref.isWhole_whole _) arg2 harg2 arg3 harg3 arg4 harg4 arg5 harg5
      oM (Memref.isWhole_whole _) yM (Memref.isWhole_whole _) ringA (Memref.isWhole_whole _) cc0_scoped1 ringB (Memref.isWhole_whole _) cc0_scoped3
      ringC (Memref.isWhole_whole _) cc0_scoped5 ringD (Memref.isWhole_whole _) cc0_scoped7 init where
  inv k acc := iprop(⌜acc = carry1 k⌝ ∗ resAt1 c XA k)
  step k acc := by
    iintro ⟨%e, H⟩
    subst e
    by_cases h11 : k.val < 11
    · by_cases h0 : k.val % 6 = 0
      · iapply (trip1_first c XA arg2 harg2 arg3 harg3 arg4 harg4 arg5 harg5 k h11 h0); iexact H
      · iapply (trip1_next c XA arg2 harg2 arg3 harg3 arg4 harg4 arg5 harg5 k h11 h0); iexact H
    · iapply (trip1_last c XA arg2 harg2 arg3 harg3 arg4 harg4 arg5 harg5 k h11); iexact H

end Trip
end Cert.Proof.KernelIdeal

end
-- ==== Proof.KernelIdeal.LoopTwo.lean ====
/-
  The second loop: trip `k` starts image block `k + 1` and halo row `k + 1`, awaits block and row `k`,
  computes result block `k` and starts it out, and awaits result block `k - 1`.
-/
module

public import proofs.«01_k».proof.Proof.KernelIdeal.LoopOne

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-- The block an element of the image (or of the result) lies in. -/
def blkOf (i : S2x96x384x384.Idx) : Fin 12 := ⟨6 * (i 0).val + (i 2).val / 64, by
  have h0 : (i 0).val < 2 := (i 0).isLt
  have h2 : (i 2).val < 384 := (i 2).isLt
  omega⟩

abbrev blkSet (b : Fin 12) : Finset S2x96x384x384.Idx := (Rect.unit (s := S2x96x384x384) (blkOff b) S1x96x64x384.size (blkOff_inb b)).set

theorem mem_blkSet (b : Fin 12) (i : S2x96x384x384.Idx) : i ∈ blkSet b ↔ blkOf i = b := by
  have h0 : (i 0).val < 2 := (i 0).isLt
  have h1 : (i 1).val < 96 := (i 1).isLt
  have h2 : (i 2).val < 384 := (i 2).isLt
  have h3 : (i 3).val < 384 := (i 3).isLt
  have hb := b.isLt
  rw [Rect.mem_set_unit, Fin.ext_iff]
  show _ ↔ 6 * (i 0).val + (i 2).val / 64 = b.val
  constructor
  · intro H
    have a0 : b.val / 6 ≤ (i 0).val ∧ (i 0).val < b.val / 6 + 1 := H 0
    have a2 : 64 * (b.val % 6) ≤ (i 2).val ∧ (i 2).val < 64 * (b.val % 6) + 64 := H 2
    omega
  · intro H a; fin_cases a
    · show b.val / 6 ≤ (i 0).val ∧ (i 0).val < b.val / 6 + 1; omega
    · show 0 ≤ (i 1).val ∧ (i 1).val < 0 + 96; omega
    · show 64 * (b.val % 6) ≤ (i 2).val ∧ (i 2).val < 64 * (b.val % 6) + 64; omega
    · show 0 ≤ (i 3).val ∧ (i 3).val < 0 + 384; omega

theorem xblk_set (b : Fin 12) : (xblk b : Memref sig .tc .hbm _ _).view.set = blkSet b := View.set_slice_whole _ _
theorem oblk_set (b : Fin 12) : (oblk b : Memref sig .tc .hbm _ _).view.set = blkSet b := View.set_slice_whole _ _

section Pieces2
variable (c : Dev nD) (HA : Buf (Elt F) (hM.view.loc (c : Thread nD τ))) (O : Buf (Elt F) (oM.view.loc (c : Thread nD τ)))
  (XA : Buf (Elt F) (xM.view.loc (c : Thread nD τ)))

/-- Halo row `b` at home; block `b` of the result, at contents `O`. -/
abbrev homeH (b : Fin 12) : sProp 𝕄 := (hblk b).view.loc (c : Thread nD τ) ↦[(hblk b).view.set]{fullShare} HA
abbrev homeO (b : Fin 12) : sProp 𝕄 := (oblk b).view.loc (c : Thread nD τ) ↦[(oblk b).view.set]{fullShare} O

/-- The second loop's image ring. -/
abbrev cellB (s : Fin 2) : sProp 𝕄 := semVal ((c : Thread nD τ), SemLoc.dma (cmB s).sem) 0
abbrev slotB (s : Fin 2) (f : Buf (Elt F) ((slB s).view.loc (c : Thread nD τ))) : sProp 𝕄 :=
  (slB s).view.loc (c : Thread nD τ) ↦[(slB s).view.set]{fullShare} f
abbrev landedB (s : Fin 2) (b : Fin 12) (f : Buf (Elt F) ((slB s).view.loc (c : Thread nD τ))) : Buf (Elt F) ((slB s).view.loc (c : Thread nD τ)) :=
  (slB s).view.writes (Elt F) f [⟨Rect.whole S1x96x64x384, ReadAs.same.apply ((xblk b).view.read (Elt F) XA)⟩]
abbrev flightB (s : Fin 2) (b : Fin 12) (f : Buf (Elt F) ((slB s).view.loc (c : Thread nD τ))) : sProp 𝕄 :=
  Transfers.Flight countersEmb (c : Thread nD τ) (SemLoc.dma (cmB s).sem) () 294912 iprop(slotB c s (landedB c XA s b f) ∗ homeX c XA b)
/-- Its halo ring. -/
abbrev cellC (s : Fin 2) : sProp 𝕄 := semVal ((c : Thread nD τ), SemLoc.dma (cmC s).sem) 0
abbrev slotC (s : Fin 2) (f : Buf (Elt F) ((slC s).view.loc (c : Thread nD τ))) : sProp 𝕄 :=
  (slC s).view.loc (c : Thread nD τ) ↦[(slC s).view.set]{fullShare} f
abbrev landedC (s : Fin 2) (b : Fin 12) (f : Buf (Elt F) ((slC s).view.loc (c : Thread nD τ))) : Buf (Elt F) ((slC s).view.loc (c : Thread nD τ)) :=
  (slC s).view.writes (Elt F) f [⟨Rect.whole S1x1x96x384, ReadAs.same.apply ((hblk b).view.read (Elt F) HA)⟩]
abbrev flightC (s : Fin 2) (b : Fin 12) (f : Buf (Elt F) ((slC s).view.loc (c : Thread nD τ))) : sProp 𝕄 :=
  Transfers.Flight countersEmb (c : Thread nD τ) (SemLoc.dma (cmC s).sem) () 4608 iprop(slotC c s (landedC c HA s b f) ∗ homeH c HA b)
/-- Its result ring. -/
abbrev cellD (s : Fin 2) : sProp 𝕄 := semVal ((c : Thread nD τ), SemLoc.dma (cmD s).sem) 0
abbrev slotD (s : Fin 2) (f : Buf (Elt F) ((slD s).view.loc (c : Thread nD τ))) : sProp 𝕄 :=
  (slD s).view.loc (c : Thread nD τ) ↦[(slD s).view.set]{fullShare} f
abbrev flightD (s : Fin 2) (b : Fin 12) (f : Buf (Elt F) ((slD s).view.loc (c : Thread nD τ))) : sProp 𝕄 :=
  Transfers.Flight countersEmb (c : Thread nD τ) (SemLoc.dma (cmD s).sem) () 294912 iprop(homeO c O b ∗ slotD c s f)

theorem homesH_here (k : ℕ) (hk : k + 1 < 12) :
    bigSep (Ring.homeSet 1 k) (homeH c HA) = iprop(homeH c HA (Ring.bk 12 (k + 1)) ∗ bigSep ((Ring.homeSet 1 k).erase (Ring.bk 12 (k + 1))) (homeH c HA)) := by
  conv_lhs => rw [Ring.homeSet_out 1 k hk, bigSep_insert (Ring.bkL_not_mem_erase 1 k)]
  rfl
theorem homesH_next (k : ℕ) (hk : k + 1 < 12) :
    bigSep (Ring.homeSet 1 (k + 1)) (homeH c HA) = iprop(homeH c HA (Ring.bk 12 k) ∗ bigSep ((Ring.homeSet 1 k).erase (Ring.bk 12 (k + 1))) (homeH c HA)) := by
  conv_lhs => rw [Ring.homeSet_succ 1 k hk, bigSep_insert (Ring.bk_not_mem_erase 1 k (by omega) (by decide))]
  rfl
theorem homesH_tail (k : ℕ) (h : 12 ≤ k + 1) (hk : k < 12) :
    bigSep (Ring.homeSet 1 (k + 1)) (homeH c HA) = iprop(homeH c HA (Ring.bk 12 k) ∗ bigSep (Ring.homeSet 1 k) (homeH c HA)) := by
  rw [Ring.homeSet_succ_tail 1 k h hk, bigSep_insert (Ring.bk_not_mem_homeSet 1 k hk (by decide))]
  rfl

/-- Result block `k` is ahead before trip `k`; block `k - 1` is behind after it. -/
theorem ahead_open (k : ℕ) (hk : k < 12) :
    bigSep (Ring.aheadSet k) (homeO c O) = iprop(homeO c O (Ring.bk 12 k) ∗ bigSep (Ring.aheadSet (k + 1)) (homeO c O)) := by
  rw [Ring.aheadSet_open k hk, bigSep_insert (Ring.bk_not_mem_aheadSet_succ k hk)]; rfl
theorem behind_close (k : ℕ) (h0 : 0 < k) (hk : k < 12) :
    bigSep (Ring.behindSet 1 (k + 1)) (homeO c O) = iprop(homeO c O (Ring.bk 12 (k - 1)) ∗ bigSep (Ring.behindSet 1 k) (homeO c O)) := by
  rw [Ring.behindSet_close 1 k h0 hk, bigSep_insert (Ring.bk_not_mem_behindSet 1 k h0 hk)]; rfl
end Pieces2

section Trip2
variable (c : Dev nD) (XA : Buf (Elt F) (xM.view.loc (c : Thread nD τ))) (HA : Buf (Elt F) (hM.view.loc (c : Thread nD τ)))
  (O0 : Buf (Elt F) (oM.view.loc (c : Thread nD τ)))
  (arg2 : Memref sig .tc .vmem S96x6 .f32) (harg2 : arg2.IsWhole)
  (arg3 : Memref sig .tc .vmem S6x96 .f32) (harg3 : arg3.IsWhole)
  (arg4 : Memref sig .tc .vmem S96x96 .f32) (harg4 : arg4.IsWhole)
  (arg5 : Memref sig .tc .vmem S1x96 .f32) (harg5 : arg5.IsWhole)
  (YB : Buf (Elt F) (yM.view.loc (c : Thread nD τ)))
  (g4 : Buf (Elt F) (arg4.view.loc (c : Thread nD τ))) (g5 : Buf (Elt F) (arg5.view.loc (c : Thread nD τ)))

abbrev P4 : sProp 𝕄 := arg4.view.loc (c : Thread nD τ) ↦[arg4.view.set]{fullShare} g4
abbrev P5 : sProp 𝕄 := arg5.view.loc (c : Thread nD τ) ↦[arg5.view.set]{fullShare} g5

/-- Halo row `b`. -/
abbrev hval (b : Fin 12) : Vec F S1x1x96x384 .f32 := (hblk b).view.read (Elt F) HA
/-- The weights, the bias, and the gate row of block `b`'s image, as the body loads them. -/
abbrev wval : Vec F S96x96 .f32 := arg4.view.read (Elt F) g4
abbrev bval : Vec F S1x96 .f32 := arg5.view.read (Elt F) g5
abbrev gval (b : Fin 12) : Vec F S1x1x96 .f32 := yM.view.readAt (Elt F) (yRect (imgOf b.val)).toLoadRect YB

/-- What the body computes from the row-block word and its loads: gate row, weights, block, halo row, bias. -/
def outOf (hi : BitVec 32) (vy : Vec F S1x1x96 .f32) (vw : Vec F S96x96 .f32) (vx : Vec F S1x96x64x384 .f32) (vh : Vec F S1x1x96x384 .f32)
    (vb : Vec F S1x96 .f32) : FVec F S1x96x64x384 .f32 :=
  k0_pay8 (k0_pay4 (F := F) hi) (k0_pay5 (F := F)) (k0_pay6 hi (k0_pay2 vy vw) (k0_pay3 vx))
    (Scalar.cmpi .eq hi 0#32) (k0_pay7 (k0_pay2 vy vw) vh) vb

/-- What the body writes into result block `b`. -/
def outVal (b : Fin 12) : FVec F S1x96x64x384 .f32 :=
  outOf (wd (b.val % 6)) (gval c YB b) (wval c arg4 g4) (xval c XA b) (hval c HA b) (bval c arg5 g5)

/-- The body's loads at trip `k` are these. -/
theorem outOf_loads (k : Fin k0_t2_loop.trips) (hc4 : k0_chk4 (nBi k)) :
    outOf (Scalar.addi (nHi k) 0#32)
      (yM.view.readAt (Elt F) (Rect.unit (s := S2x1x96) (k0_off25 (nBi k)) S1x1x96.size (k0_off25_inb (nBi k) hc4)).toLoadRect YB)
      (arg4.view.readAt (Elt F) (Rect.unit (s := S96x96) ![0, 0] S96x96.size inb_S96x96_S96x96_0_0).toLoadRect g4)
      ((slB (Ring.sl 2 k.val)).view.readCov [⟨Rect.whole S1x96x64x384, ReadAs.same.apply ((xblk (Ring.bk 12 k.val)).view.read (Elt F) XA)⟩]
        (Rect.unit (s := S1x96x64x384) ![0, 0, 0, 0] S1x96x64x384.size inb_S1x96x64x384_S1x96x64x384_0_0_0_0).toLoadRect)
      ((slC (Ring.sl 2 k.val)).view.readCov [⟨Rect.whole S1x1x96x384, ReadAs.same.apply ((hblk (Ring.bk 12 k.val)).view.read (Elt F) HA)⟩]
        (Rect.unit (s := S1x1x96x384) ![0, 0, 0, 0] S1x1x96x384.size inb_S1x1x96x384_S1x1x96x384_0_0_0_0).toLoadRect)
      (arg5.view.readAt (Elt F) (Rect.unit (s := S1x96) ![0, 0] S1x96.size inb_S1x96_S1x96_0_0).toLoadRect g5)
      = outVal c XA HA arg4 arg5 YB g4 g5 (Ring.bk 12 k.val) := by
  have hk : (Ring.bk 12 k.val).val = k.val := Ring.bk_val (lt12_2 k)
  have e1 : Scalar.addi (nHi k) 0#32 = wd ((Ring.bk 12 k.val).val % 6) := by rw [hk]; exact BitVec.add_zero _
  have e2 : yM.view.readAt (Elt F) (Rect.unit (s := S2x1x96) (k0_off25 (nBi k)) S1x1x96.size (k0_off25_inb (nBi k) hc4)).toLoadRect YB
      = gval c YB (Ring.bk 12 k.val) := by
    have : ∀ off (e : off = yOff (imgOf (Ring.bk 12 k.val).val).val) (hh),
        yM.view.readAt (Elt F) (Rect.unit (s := S2x1x96) off S1x1x96.size hh).toLoadRect YB = gval c YB (Ring.bk 12 k.val) := by
      rintro off rfl hh; rfl
    refine this _ ?_ _
    rw [hk]; exact off25_eq k
  unfold outVal
  rw [e1, e2, slot_load, slot_load]
  congr 1
  · exact View.readAt_full _ _ _
  · exact View.readAt_full _ _ _

/-- The whole result: each element from its block. -/
def OUT : Buf (Elt F) (oM.view.loc (c : Thread nD τ)) := fun i =>
  (oblk (blkOf i)).view.writes (Elt F) O0 [⟨Rect.whole S1x96x64x384, outVal c XA HA arg4 arg5 YB g4 g5 (blkOf i)⟩] i

/-- Block `b`, once `outVal b` has been transferred into it, holds its part of the whole result. -/
theorem homeO_landed (b : Fin 12) (w : FVec F S1x96x64x384 .f32) (hw : w = outVal c XA HA arg4 arg5 YB g4 g5 b) :
    homeO c ((oblk b).view.writes (Elt F) O0 [⟨Rect.whole S1x96x64x384, w⟩]) b = homeO c (OUT c XA HA O0 arg4 arg5 YB g4 g5) b := by
  subst hw
  refine pointsTo_congr fun i hi => ?_
  rw [oblk_set] at hi
  have e := (mem_blkSet b i).mp hi
  have key : ∀ b' : Fin 12, b' = b → ((oblk b).view.writes (Elt F) O0 [⟨Rect.whole S1x96x64x384, outVal c XA HA arg4 arg5 YB g4 g5 b⟩] i : Elt F .f32)
      = (oblk b').view.writes (Elt F) O0 [⟨Rect.whole S1x96x64x384, outVal c XA HA arg4 arg5 YB g4 g5 b'⟩] i := by
    intro b' hb; cases hb; rfl
  exact key _ e

abbrev tripG2 (k : Fin k0_t2_loop.trips) (acc : BitVec 32 × BitVec 32 × BitVec 32 × BitVec 32 × BitVec 32 × BitVec 32 × BitVec 32 × BitVec 32) :
    Prog (TpuEff nD τ sig (Elt F) Λ₀ .tc) (BitVec 32 × BitVec 32 × BitVec 32 × BitVec 32 × BitVec 32 × BitVec 32 × BitVec 32 × BitVec 32) :=
  k0_t2_body (F := F) xM (Memref.isWhole_whole _) hM (Memref.isWhole_whole _) arg2 harg2 arg3 harg3 arg4 harg4 arg5 harg5
    oM (Memref.isWhole_whole _) yM (Memref.isWhole_whole _) ringA (Memref.isWhole_whole _) cc0_scoped1 ringB (Memref.isWhole_whole _) cc0_scoped3
    ringC (Memref.isWhole_whole _) cc0_scoped5 ringD (Memref.isWhole_whole _) cc0_scoped7
    1#32 1#32 0#32 0#32 0#32 0#32 0#32 0#32 0#32 k acc

/-- Everything the second loop holds before trip `k`: block and halo row `k` on their way in, result block `k - 1`
    on its way out, the blocks before it landed, those from `k` on untouched. -/
def resAt2 (k : ℕ) : sProp 𝕄 :=
  iprop(yP c YB ∗ P4 c arg4 g4 ∗ P5 c arg5 g5 ∗ (∃ W, owes (c : Thread nD τ) 0 W)
    ∗ bigSep (Ring.homeSet 1 k) (homeX c XA) ∗ bigSep (Ring.homeSet 1 k) (homeH c HA)
    ∗ bigSep (Ring.aheadSet k) (homeO c O0) ∗ bigSep (Ring.behindSet 1 k) (homeO c (OUT c XA HA O0 arg4 arg5 YB g4 g5))
    ∗ ((if k < 12 then iprop(∃ f, flightB c XA (Ring.sl 2 k) (Ring.bk 12 k) f) else iprop(cellB c (Ring.sl 2 k) ∗ ∃ f, slotB c (Ring.sl 2 k) f)) ∗ cellB c (Ring.sl 2 (k + 1)) ∗ (∃ f, slotB c (Ring.sl 2 (k + 1)) f))
    ∗ ((if k < 12 then iprop(∃ f, flightC c HA (Ring.sl 2 k) (Ring.bk 12 k) f) else iprop(cellC c (Ring.sl 2 k) ∗ ∃ f, slotC c (Ring.sl 2 k) f)) ∗ cellC c (Ring.sl 2 (k + 1)) ∗ (∃ f, slotC c (Ring.sl 2 (k + 1)) f))
    ∗ ((if k = 0 then iprop(cellD c (Ring.sl 2 (k + 1)) ∗ ∃ f, slotD c (Ring.sl 2 (k + 1)) f) else iprop(∃ f, flightD c (OUT c XA HA O0 arg4 arg5 YB g4 g5) (Ring.sl 2 (k + 1)) (Ring.bk 12 (k - 1)) f)) ∗ cellD c (Ring.sl 2 k) ∗ (∃ f, slotD c (Ring.sl 2 k) f)))

theorem resAt2_zero (k : ℕ) (h0 : k = 0) : resAt2 c XA HA O0 arg4 arg5 YB g4 g5 k =
    iprop(yP c YB ∗ P4 c arg4 g4 ∗ P5 c arg5 g5 ∗ (∃ W, owes (c : Thread nD τ) 0 W)
    ∗ bigSep (Ring.homeSet 1 k) (homeX c XA) ∗ bigSep (Ring.homeSet 1 k) (homeH c HA)
    ∗ bigSep (Ring.aheadSet k) (homeO c O0) ∗ bigSep (Ring.behindSet 1 k) (homeO c (OUT c XA HA O0 arg4 arg5 YB g4 g5))
    ∗ ((∃ f, flightB c XA (Ring.sl 2 k) (Ring.bk 12 k) f) ∗ cellB c (Ring.sl 2 (k + 1)) ∗ (∃ f, slotB c (Ring.sl 2 (k + 1)) f))
    ∗ ((∃ f, flightC c HA (Ring.sl 2 k) (Ring.bk 12 k) f) ∗ cellC c (Ring.sl 2 (k + 1)) ∗ (∃ f, slotC c (Ring.sl 2 (k + 1)) f))
    ∗ ((cellD c (Ring.sl 2 (k + 1)) ∗ ∃ f, slotD c (Ring.sl 2 (k + 1)) f) ∗ cellD c (Ring.sl 2 k) ∗ (∃ f, slotD c (Ring.sl 2 k) f))) := by
  unfold resAt2; rw [if_pos (show k < 12 by omega), if_pos (show k < 12 by omega), if_pos h0]
theorem resAt2_mid (k : ℕ) (h0 : 0 < k) (hk : k < 12) : resAt2 c XA HA O0 arg4 arg5 YB g4 g5 k =
    iprop(yP c YB ∗ P4 c arg4 g4 ∗ P5 c arg5 g5 ∗ (∃ W, owes (c : Thread nD τ) 0 W)
    ∗ bigSep (Ring.homeSet 1 k) (homeX c XA) ∗ bigSep (Ring.homeSet 1 k) (homeH c HA)
    ∗ bigSep (Ring.aheadSet k) (homeO c O0) ∗ bigSep (Ring.behindSet 1 k) (homeO c (OUT c XA HA O0 arg4 arg5 YB g4 g5))
    ∗ ((∃ f, flightB c XA (Ring.sl 2 k) (Ring.bk 12 k) f) ∗ cellB c (Ring.sl 2 (k + 1)) ∗ (∃ f, slotB c (Ring.sl 2 (k + 1)) f))
    ∗ ((∃ f, flightC c HA (Ring.sl 2 k) (Ring.bk 12 k) f) ∗ cellC c (Ring.sl 2 (k + 1)) ∗ (∃ f, slotC c (Ring.sl 2 (k + 1)) f))
    ∗ ((∃ f, flightD c (OUT c XA HA O0 arg4 arg5 YB g4 g5) (Ring.sl 2 (k + 1)) (Ring.bk 12 (k - 1)) f) ∗ cellD c (Ring.sl 2 k) ∗ (∃ f, slotD c (Ring.sl 2 k) f))) := by
  unfold resAt2; rw [if_pos hk, if_pos hk, if_neg (show ¬k = 0 by omega)]
theorem resAt2_last (k : ℕ) (hk : ¬k < 12) : resAt2 c XA HA O0 arg4 arg5 YB g4 g5 k =
    iprop(yP c YB ∗ P4 c arg4 g4 ∗ P5 c arg5 g5 ∗ (∃ W, owes (c : Thread nD τ) 0 W)
    ∗ bigSep (Ring.homeSet 1 k) (homeX c XA) ∗ bigSep (Ring.homeSet 1 k) (homeH c HA)
    ∗ bigSep (Ring.aheadSet k) (homeO c O0) ∗ bigSep (Ring.behindSet 1 k) (homeO c (OUT c XA HA O0 arg4 arg5 YB g4 g5))
    ∗ ((cellB c (Ring.sl 2 k) ∗ ∃ f, slotB c (Ring.sl 2 k) f) ∗ cellB c (Ring.sl 2 (k + 1)) ∗ (∃ f, slotB c (Ring.sl 2 (k + 1)) f))
    ∗ ((cellC c (Ring.sl 2 k) ∗ ∃ f, slotC c (Ring.sl 2 k) f) ∗ cellC c (Ring.sl 2 (k + 1)) ∗ (∃ f, slotC c (Ring.sl 2 (k + 1)) f))
    ∗ ((∃ f, flightD c (OUT c XA HA O0 arg4 arg5 YB g4 g5) (Ring.sl 2 (k + 1)) (Ring.bk 12 (k - 1)) f) ∗ cellD c (Ring.sl 2 k) ∗ (∃ f, slotD c (Ring.sl 2 k) f))) := by
  unfold resAt2; rw [if_neg hk, if_neg hk, if_neg (show ¬k = 0 by omega)]

/-- A result block's transfer, once what it carries is the block's value, delivers the block at the whole result. -/
theorem flightD_of (s : Fin 2) (b : Fin 12) (w : FVec F S1x96x64x384 .f32) (hw : w = outVal c XA HA arg4 arg5 YB g4 g5 b)
    (f : Buf (Elt F) ((slD s).view.loc (c : Thread nD τ))) :
    (Transfers.Flight countersEmb (c : Thread nD τ) (SemLoc.dma (cmD s).sem) () 294912
      iprop(homeO c ((oblk b).view.writes (Elt F) O0 [⟨Rect.whole S1x96x64x384, w⟩]) b ∗ slotD c s f) : sProp 𝕄)
      ⊢ flightD c (OUT c XA HA O0 arg4 arg5 YB g4 g5) s b f := by
  rw [homeO_landed c XA HA O0 arg4 arg5 YB g4 g5 b w hw]

/-- The first trip: no result block to await. -/
theorem trip2_first (k : Fin k0_t2_loop.trips) (h0 : k.val = 0) :
    resAt2 c XA HA O0 arg4 arg5 YB g4 g5 k ⊢ wp frame (wpE (defs₀ (F := F)) 𝒱₀ (c : Thread nD τ) none) Set.univ (tripG2 arg2 harg2 arg3 harg3 arg4 harg4 arg5 harg5 k (carry2 k))
      (fun acc => iprop(⌜acc = carry2 (k + 1)⌝ ∗ resAt2 c XA HA O0 arg4 arg5 YB g4 g5 (k + 1))) := by
  have h12 := lt12_2 k
  have hc3 := chk3_ok k
  have hc4 := chk4_ok k
  have hc5 := chk5_ok k
  have hc6 := chk6_ok k
  have hc7 := chk7_ok k
  have h11 : k.val < 11 := by omega
  have hb7 := cond7_pos k h11
  have hb8 := cond8_pos k h11
  have hb17 := cond17_neg k (by omega)
  have hb9 := cond9_pos k
  have hb10 := cond10_pos k
  have hb14 := cond14_pos k
  rw [resAt2_zero c XA HA O0 arg4 arg5 YB g4 g5 k h0, resAt2_mid c XA HA O0 arg4 arg5 YB g4 g5 (k + 1) (by omega) (by omega), homesX_here c XA k.val (by omega), homesX_next c XA k.val (by omega),
    homesH_here c HA k.val (by omega), homesH_next c HA k.val (by omega), Ring.behindSet_boot 1 k.val (by omega), Ring.behindSet_boot 1 (k.val + 1) (by omega), sl2_succ2, Nat.add_sub_cancel, ahead_open c O0 k.val (by omega)]
  iintro ⟨HY, H4, H5, ⟨%W, HW⟩, ⟨Hx, HXr⟩, ⟨Hh, HHr⟩, ⟨Ho, HOr⟩, Hbeh, ⟨⟨%f0, HB⟩, HcB, ⟨%f1, HsB⟩⟩, ⟨⟨%f2, HC⟩, HcC, ⟨%f3, HsC⟩⟩, ⟨⟨HD, ⟨%f4, HD_src⟩⟩, HcD, ⟨%f5, HsD⟩⟩⟩
  dsimp only [tripG2]
  sl_unfold [k0_t2_body]
  sl_exec
  sl_step
  have e : trip2_first.sl.dma7 c XA HA arg4 arg5 YB g4 g5 k hc4 f5 = outVal c XA HA arg4 arg5 YB g4 g5 (Ring.bk 12 k.val) := by
    unfold trip2_first.sl.dma7 trip2_first.sl.HsD_1
    exact (View.read_writes_full _ _ _ _ _).trans (outOf_loads c XA HA arg4 arg5 YB g4 g5 k hc4)
  ihave HcD' := (flightD_of c XA HA O0 arg4 arg5 YB g4 g5 (Ring.sl 2 k.val) (Ring.bk 12 k.val) _ e _) $$ HcD
  isplitr
  · ipureintro; clear * - h11 h0; revert k; simp only [carry2, Prod.mk.injEq]; decide +kernel
  isplitl [HY]; · iexact HY
  isplitl [H4]; · iexact H4
  isplitl [H5]; · iexact H5
  isplitl [HW]; · iexists _; iexact HW
  isplitl [HB_src HXr]
  · isplitl [HB_src]; · iexact HB_src
    iexact HXr
  isplitl [HC_src HHr]
  · isplitl [HC_src]; · iexact HC_src
    iexact HHr
  isplitl [HOr]; · iexact HOr
  isplitl [Hbeh]; · iexact Hbeh
  isplitl [HcB HB HB_dst]
  · isplitl [HcB]; · iexists f1; iexact HcB
    isplitl [HB]; · iexact HB
    iexists _; iexact HB_dst
  isplitl [HcC HC HC_dst]
  · isplitl [HcC]; · iexists f3; iexact HcC
    isplitl [HC]; · iexact HC
    iexists _; iexact HC_dst
  isplitl [HcD']; · iexists _; iexact HcD'
  isplitl [HD]; · iexact HD
  iexists _; iexact HD_src

/-- A trip in the middle. -/
theorem trip2_mid (k : Fin k0_t2_loop.trips) (h0 : 0 < k.val) (h11 : k.val < 11) :
    resAt2 c XA HA O0 arg4 arg5 YB g4 g5 k ⊢ wp frame (wpE (defs₀ (F := F)) 𝒱₀ (c : Thread nD τ) none) Set.univ (tripG2 arg2 harg2 arg3 harg3 arg4 harg4 arg5 harg5 k (carry2 k))
      (fun acc => iprop(⌜acc = carry2 (k + 1)⌝ ∗ resAt2 c XA HA O0 arg4 arg5 YB g4 g5 (k + 1))) := by
  have h12 := lt12_2 k
  have hc3 := chk3_ok k
  have hc4 := chk4_ok k
  have hc5 := chk5_ok k
  have hc6 := chk6_ok k
  have hc7 := chk7_ok k
  have hb7 := cond7_pos k h11
  have hb8 := cond8_pos k h11
  have hb17 := cond17_pos k h0
  have hb9 := cond9_pos k
  have hb10 := cond10_pos k
  have hb14 := cond14_pos k
  rw [resAt2_mid c XA HA O0 arg4 arg5 YB g4 g5 k h0 h12, resAt2_mid c XA HA O0 arg4 arg5 YB g4 g5 (k + 1) (by omega) (by omega), homesX_here c XA k.val (by omega), homesX_next c XA k.val (by omega),
    homesH_here c HA k.val (by omega), homesH_next c HA k.val (by omega), behind_close c (OUT c XA HA O0 arg4 arg5 YB g4 g5) k.val h0 h12, sl2_succ2, Nat.add_sub_cancel, ahead_open c O0 k.val (by omega)]
  iintro ⟨HY, H4, H5, ⟨%W, HW⟩, ⟨Hx, HXr⟩, ⟨Hh, HHr⟩, ⟨Ho, HOr⟩, Hbeh, ⟨⟨%f0, HB⟩, HcB, ⟨%f1, HsB⟩⟩, ⟨⟨%f2, HC⟩, HcC, ⟨%f3, HsC⟩⟩, ⟨⟨%f4, HD⟩, HcD, ⟨%f5, HsD⟩⟩⟩
  dsimp only [tripG2]
  sl_unfold [k0_t2_body]
  sl_exec
  sl_step
  have e : trip2_mid.sl.dma7 c XA HA arg4 arg5 YB g4 g5 k hc4 f5 = outVal c XA HA arg4 arg5 YB g4 g5 (Ring.bk 12 k.val) := by
    unfold trip2_mid.sl.dma7 trip2_mid.sl.HsD_1
    exact (View.read_writes_full _ _ _ _ _).trans (outOf_loads c XA HA arg4 arg5 YB g4 g5 k hc4)
  ihave HcD' := (flightD_of c XA HA O0 arg4 arg5 YB g4 g5 (Ring.sl 2 k.val) (Ring.bk 12 k.val) _ e _) $$ HcD
  isplitr
  · ipureintro; clear * - h11 h0; revert k; simp only [carry2, Prod.mk.injEq]; decide +kernel
  isplitl [HY]; · iexact HY
  isplitl [H4]; · iexact H4
  isplitl [H5]; · iexact H5
  isplitl [HW]; · iexists _; iexact HW
  isplitl [HB_src HXr]
  · isplitl [HB_src]; · iexact HB_src
    iexact HXr
  isplitl [HC_src HHr]
  · isplitl [HC_src]; · iexact HC_src
    iexact HHr
  isplitl [HOr]; · iexact HOr
  isplitl [HD_dst Hbeh]
  · isplitl [HD_dst]; · iexact HD_dst
    iexact Hbeh
  isplitl [HcB HB HB_dst]
  · isplitl [HcB]; · iexists f1; iexact HcB
    isplitl [HB]; · iexact HB
    iexists _; iexact HB_dst
  isplitl [HcC HC HC_dst]
  · isplitl [HcC]; · iexists f3; iexact HcC
    isplitl [HC]; · iexact HC
    iexists _; iexact HC_dst
  isplitl [HcD']; · iexists _; iexact HcD'
  isplitl [HD]; · iexact HD
  iexists _; iexact HD_src

/-- The last trip: nothing more comes in. -/
theorem trip2_last (k : Fin k0_t2_loop.trips) (h0 : 0 < k.val) (h11 : ¬k.val < 11) :
    resAt2 c XA HA O0 arg4 arg5 YB g4 g5 k ⊢ wp frame (wpE (defs₀ (F := F)) 𝒱₀ (c : Thread nD τ) none) Set.univ (tripG2 arg2 harg2 arg3 harg3 arg4 harg4 arg5 harg5 k (carry2 k))
      (fun acc => iprop(⌜acc = carry2 (k + 1)⌝ ∗ resAt2 c XA HA O0 arg4 arg5 YB g4 g5 (k + 1))) := by
  have h12 := lt12_2 k
  have hc3 := chk3_ok k
  have hc4 := chk4_ok k
  have hc5 := chk5_ok k
  have hc6 := chk6_ok k
  have hc7 := chk7_ok k
  have hb7 := cond7_neg k h11
  have hb8 := cond8_neg k h11
  have hb17 := cond17_pos k h0
  have hb9 := cond9_pos k
  have hb10 := cond10_pos k
  have hb14 := cond14_pos k
  rw [resAt2_mid c XA HA O0 arg4 arg5 YB g4 g5 k h0 h12, resAt2_last c XA HA O0 arg4 arg5 YB g4 g5 (k + 1) (by omega), homesX_tail c XA k.val (by omega) h12,
    homesH_tail c HA k.val (by omega) h12, behind_close c (OUT c XA HA O0 arg4 arg5 YB g4 g5) k.val h0 h12, sl2_succ2, Nat.add_sub_cancel, ahead_open c O0 k.val (by omega)]
  iintro ⟨HY, H4, H5, ⟨%W, HW⟩, HXr, HHr, ⟨Ho, HOr⟩, Hbeh, ⟨⟨%f0, HB⟩, HcB, ⟨%f1, HsB⟩⟩, ⟨⟨%f2, HC⟩, HcC, ⟨%f3, HsC⟩⟩, ⟨⟨%f4, HD⟩, HcD, ⟨%f5, HsD⟩⟩⟩
  dsimp only [tripG2]
  sl_unfold [k0_t2_body]
  sl_exec
  sl_step
  have e : trip2_last.sl.dma7 c XA HA arg4 arg5 YB g4 g5 k hc4 f5 = outVal c XA HA arg4 arg5 YB g4 g5 (Ring.bk 12 k.val) := by
    unfold trip2_last.sl.dma7 trip2_last.sl.HsD_1
    exact (View.read_writes_full _ _ _ _ _).trans (outOf_loads c XA HA arg4 arg5 YB g4 g5 k hc4)
  ihave HcD' := (flightD_of c XA HA O0 arg4 arg5 YB g4 g5 (Ring.sl 2 k.val) (Ring.bk 12 k.val) _ e _) $$ HcD
  isplitr
  · ipureintro; clear * - h11 h0; revert k; simp only [carry2, Prod.mk.injEq]; decide +kernel
  isplitl [HY]; · iexact HY
  isplitl [H4]; · iexact H4
  isplitl [H5]; · iexact H5
  isplitl [HW]; · iexists _; iexact HW
  isplitl [HB_src HXr]
  · isplitl [HB_src]; · iexact HB_src
    iexact HXr
  isplitl [HC_src HHr]
  · isplitl [HC_src]; · iexact HC_src
    iexact HHr
  isplitl [HOr]; · iexact HOr
  isplitl [HD_dst Hbeh]
  · isplitl [HD_dst]; · iexact HD_dst
    iexact Hbeh
  isplitl [HcB HsB HB HB_dst]
  · isplitl [HcB HsB]
    · isplitl [HcB]; · iexact HcB
      iexists f1; iexact HsB
    isplitl [HB]; · iexact HB
    iexists _; iexact HB_dst
  isplitl [HcC HsC HC HC_dst]
  · isplitl [HcC HsC]
    · isplitl [HcC]; · iexact HcC
      iexists f3; iexact HsC
    isplitl [HC]; · iexact HC
    iexists _; iexact HC_dst
  isplitl [HcD']; · iexists _; iexact HcD'
  isplitl [HD]; · iexact HD
  iexists _; iexact HD_src

set_option warn.classDefReducibility false in
/-- The second loop's invariant: the carried words in closed form, and the resources of the trip. -/
@[sl_loop] def loopInv2 (init : BitVec 32 × BitVec 32 × BitVec 32 × BitVec 32 × BitVec 32 × BitVec 32 × BitVec 32 × BitVec 32) :
    LoopInvTy_k0_t2 (F := F) Unit ℕ (UU nD τ) ℕ 𝒱₀ c none Set.univ xM (Memref.isWhole_whole _) hM (Memref.isWhole_whole _) arg2 harg2 arg3 harg3 arg4 harg4 arg5 harg5
      oM (Memref.isWhole_whole _) yM (Memref.isWhole_whole _) ringA (Memref.isWhole_whole _) cc0_scoped1 ringB (Memref.isWhole_whole _) cc0_scoped3
      ringC (Memref.isWhole_whole _) cc0_scoped5 ringD (Memref.isWhole_whole _) cc0_scoped7
      1#32 1#32 0#32 0#32 0#32 0#32 0#32 0#32 0#32 init where
  inv k acc := iprop(⌜acc = carry2 k⌝ ∗ resAt2 c XA HA O0 arg4 arg5 YB g4 g5 k)
  step k acc := by
    iintro ⟨%e, H⟩
    subst e
    by_cases h0 : k.val = 0
    · iapply (trip2_first c XA HA O0 arg2 harg2 arg3 harg3 arg4 harg4 arg5 harg5 YB g4 g5 k h0); iexact H
    · by_cases h11 : k.val < 11
      · iapply (trip2_mid c XA HA O0 arg2 harg2 arg3 harg3 arg4 harg4 arg5 harg5 YB g4 g5 k (by omega) h11); iexact H
      · iapply (trip2_last c XA HA O0 arg2 harg2 arg3 harg3 arg4 harg4 arg5 harg5 YB g4 g5 k (by omega) h11); iexact H

end Trip2
end Cert.Proof.KernelIdeal

end
-- ==== Proof.KernelIdeal.Body.lean ====
/-
  The whole body: the first prologue and loop, the two small layers between, the second prologue and loop,
  and the wait for the last result block.
-/
module

public import proofs.«01_k».proof.Proof.KernelIdeal.LoopTwo
public import Idealize.ShloMosaic.Lib.ValueIdxCore

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

section Body
variable (c : Dev nD) (XA : Buf (Elt F) (xM.view.loc (c : Thread nD τ))) (HA : Buf (Elt F) (hM.view.loc (c : Thread nD τ)))
  (O0 : Buf (Elt F) (oM.view.loc (c : Thread nD τ)))
  (arg2 : Memref sig .tc .vmem S96x6 .f32) (harg2 : arg2.IsWhole)
  (arg3 : Memref sig .tc .vmem S6x96 .f32) (harg3 : arg3.IsWhole)
  (arg4 : Memref sig .tc .vmem S96x96 .f32) (harg4 : arg4.IsWhole)
  (arg5 : Memref sig .tc .vmem S1x96 .f32) (harg5 : arg5.IsWhole)
  (g2 : Buf (Elt F) (arg2.view.loc (c : Thread nD τ))) (g3 : Buf (Elt F) (arg3.view.loc (c : Thread nD τ)))
  (g4 : Buf (Elt F) (arg4.view.loc (c : Thread nD τ))) (g5 : Buf (Elt F) (arg5.view.loc (c : Thread nD τ)))

abbrev P2 : sProp 𝕄 := arg2.view.loc (c : Thread nD τ) ↦[arg2.view.set]{fullShare} g2
abbrev P3 : sProp 𝕄 := arg3.view.loc (c : Thread nD τ) ↦[arg3.view.set]{fullShare} g3

abbrev bodyG : Prog (TpuEff nD τ sig (Elt F) Λ₀ .tc) PUnit :=
  cc0__body (F := F) xM (Memref.isWhole_whole _) hM (Memref.isWhole_whole _) arg2 harg2 arg3 harg3 arg4 harg4 arg5 harg5
    oM (Memref.isWhole_whole _) yM (Memref.isWhole_whole _) ringA (Memref.isWhole_whole _) cc0_scoped1 ringB (Memref.isWhole_whole _) cc0_scoped3
    ringC (Memref.isWhole_whole _) cc0_scoped5 ringD (Memref.isWhole_whole _) cc0_scoped7

/-- The rings at rest: every slot at anything, every cell at zero. -/
abbrev restA : sProp 𝕄 := iprop((cellA c 0 ∗ ∃ f, slotA c 0 f) ∗ cellA c 1 ∗ ∃ f, slotA c 1 f)
abbrev restB : sProp 𝕄 := iprop((cellB c 0 ∗ ∃ f, slotB c 0 f) ∗ cellB c 1 ∗ ∃ f, slotB c 1 f)
abbrev restC : sProp 𝕄 := iprop((cellC c 0 ∗ ∃ f, slotC c 0 f) ∗ cellC c 1 ∗ ∃ f, slotC c 1 f)
abbrev restD : sProp 𝕄 := iprop((cellD c 0 ∗ ∃ f, slotD c 0 f) ∗ cellD c 1 ∗ ∃ f, slotD c 1 f)

theorem sl2_0 : Ring.sl 2 0 = 0 := Fin.ext (by rfl)
theorem sl2_1 : Ring.sl 2 (0 + 1) = 1 := Fin.ext (by rfl)
theorem bk12_0 : Ring.bk 12 0 = 0 := Fin.ext (by rfl)

theorem homesX_zero : bigSep Finset.univ (homeX c XA) = iprop(homeX c XA 0 ∗ bigSep (Ring.homeSet 1 0) (homeX c XA)) := by
  have e : (Finset.univ : Finset (Fin 12)) = insert 0 (Ring.homeSet (NB := 12) 1 0) := by decide
  rw [e, bigSep_insert (by decide)]; rfl

theorem enter1 (fy W f) :
    iprop(yP c fy ∗ owes (c : Thread nD τ) 0 W ∗ bigSep (Ring.homeSet 1 0) (homeX c XA) ∗ flightA c XA 0 0 f ∗ cellA c 1 ∗ ∃ f, slotA c 1 f)
      ⊢ resAt1 c XA 0 := by
  rw [resAt1_lt c XA 0 (by decide), sl2_0, sl2_1, bk12_0]
  iintro ⟨HY, HW, HX, HF, Hc, Hs⟩
  isplitl [HY]
  · iexists fy; isplitr
    · ipureintro; intro i h; exact absurd h (Nat.not_lt_zero _)
    · iexact HY
  isplitl [HW]; · iexists W; iexact HW
  isplitl [HX]; · iexact HX
  isplitl [HF]; · iexists f; iexact HF
  isplitl [Hc]; · iexact Hc
  iexact Hs

/-- All the channel sums, as the first loop leaves them. -/
def yAll : FVec F S2x1x96 .f32 := fun i => ySum c XA (i 0) 5 (ValueIdx.ix3 0 0 (i 2))

/-- After the first loop the sums are all there. -/
theorem ysOK_all (f : Buf (Elt F) (yM.view.loc (c : Thread nD τ))) (h : YsOK c XA 12 f) (hh) :
    yM.view.readAt (Elt F) (Rect.unit (s := S2x1x96) ![0, 0, 0] S2x1x96.size hh).toLoadRect f = yAll c XA := by
  funext i
  have h2 : (i 0).val < 2 := (i 0).isLt
  have e := congrFun (h (i 0) (by omega)) (ValueIdx.ix3 0 0 (i 2))
  rw [show min (12 - 6 * (i 0).val) 6 - 1 = 5 by omega] at e
  rw [View.readAt_apply] at e ⊢
  refine Eq.trans ?_ e
  congr 1
  funext a
  have h1 : (i 1).val < 1 := (i 1).isLt
  match a with
  | ⟨0, _⟩ => exact Fin.ext (by show 0 + 1 * (i 0).val = (i 0).val + 1 * 0; omega)
  | ⟨1, _⟩ => exact Fin.ext (by show 0 + 1 * (i 1).val = 0 + 1 * 0; omega)
  | ⟨2, _⟩ => rfl

theorem homesH_zero : bigSep Finset.univ (homeH c HA) = iprop(homeH c HA 0 ∗ bigSep (Ring.homeSet 1 0) (homeH c HA)) := by
  have e : (Finset.univ : Finset (Fin 12)) = insert 0 (Ring.homeSet (NB := 12) 1 0) := by decide
  rw [e, bigSep_insert (by decide)]; rfl

theorem exit1 (T : ℕ) (hT : T = 12) :
    resAt1 c XA T ⊢ iprop((∃ f, ⌜YsOK c XA 12 f⌝ ∗ yP c f) ∗ (∃ W, owes (c : Thread nD τ) 0 W)
      ∗ homeX c XA 0 ∗ bigSep (Ring.homeSet 1 0) (homeX c XA) ∗ restA c) := by
  subst hT
  rw [resAt1_last c XA 12 (by decide), Ring.homeSet_last 1 12 (by decide), homesX_zero, show Ring.sl 2 12 = 0 from Fin.ext (by rfl), show Ring.sl 2 (12 + 1) = 1 from Fin.ext (by rfl)]
  iintro ⟨HY, HW, ⟨Hx0, HX⟩, ⟨Hc, Hs⟩, Hc1, Hs1⟩
  isplitl [HY]; · iexact HY
  isplitl [HW]; · iexact HW
  isplitl [Hx0]; · iexact Hx0
  isplitl [HX]; · iexact HX
  isplitl [Hc Hs]
  · isplitl [Hc]; · iexact Hc
    iexact Hs
  isplitl [Hc1]; · iexact Hc1
  iexact Hs1

/-- The gates of all images and channels, from the sums and the two layers' weights. -/
def gates : FVec F S2x1x96 .f32 := k0_pay12 (k0_pay11 (yAll c XA) (arg2.view.read (Elt F) g2)) (arg3.view.read (Elt F) g3)

theorem gates_loads (f : Buf (Elt F) (yM.view.loc (c : Thread nD τ))) (h : YsOK c XA 12 f) (h1 h2 h3) :
    k0_pay12 (k0_pay11 (yM.view.readAt (Elt F) (Rect.unit (s := S2x1x96) ![0, 0, 0] S2x1x96.size h1).toLoadRect f)
        (arg2.view.readAt (Elt F) (Rect.unit (s := S96x6) ![0, 0] S96x6.size h2).toLoadRect g2))
      (arg3.view.readAt (Elt F) (Rect.unit (s := S6x96) ![0, 0] S6x96.size h3).toLoadRect g3) = gates c XA arg2 arg3 g2 g3 := by
  unfold gates
  rw [ysOK_all c XA f h]
  congr 2
  · exact View.readAt_full _ _ _
  · exact View.readAt_full _ _ _

theorem enter2 (YB W fb fc) :
    iprop(yP c YB ∗ P4 c arg4 g4 ∗ P5 c arg5 g5 ∗ owes (c : Thread nD τ) 0 W
      ∗ bigSep (Ring.homeSet 1 0) (homeX c XA) ∗ bigSep (Ring.homeSet 1 0) (homeH c HA) ∗ bigSep Finset.univ (homeO c O0)
      ∗ flightB c XA 0 0 fb ∗ cellB c 1 ∗ (∃ f, slotB c 1 f) ∗ flightC c HA 0 0 fc ∗ cellC c 1 ∗ (∃ f, slotC c 1 f) ∗ restD c)
      ⊢ resAt2 c XA HA O0 arg4 arg5 YB g4 g5 0 := by
  rw [resAt2_zero c XA HA O0 arg4 arg5 YB g4 g5 0 rfl, sl2_0, sl2_1, bk12_0, Ring.aheadSet_zero, Ring.behindSet_boot 1 0 (by decide), bigSep_empty]
  iintro ⟨HY, H4, H5, HW, HX, HH, HO, HB, HcB, HsB, HC, HcC, HsC, ⟨HcD0, HsD0⟩, HcD, HsD⟩
  isplitl [HY]; · iexact HY
  isplitl [H4]; · iexact H4
  isplitl [H5]; · iexact H5
  isplitl [HW]; · iexists W; iexact HW
  isplitl [HX]; · iexact HX
  isplitl [HH]; · iexact HH
  isplitl [HO]; · iexact HO
  isplitr; · iempintro
  isplitl [HB HcB HsB]
  · isplitl [HB]; · iexists fb; iexact HB
    isplitl [HcB]; · iexact HcB
    iexact HsB
  isplitl [HC HcC HsC]
  · isplitl [HC]; · iexists fc; iexact HC
    isplitl [HcC]; · iexact HcC
    iexact HsC
  isplitl [HcD HsD]
  · isplitl [HcD]; · iexact HcD
    iexact HsD
  isplitl [HcD0]; · iexact HcD0
  iexact HsD0

theorem behindO (O : Buf (Elt F) (oM.view.loc (c : Thread nD τ))) :
    bigSep Finset.univ (homeO c O) = iprop(homeO c O 11 ∗ bigSep (Ring.behindSet 1 12) (homeO c O)) := by
  have e : (Finset.univ : Finset (Fin 12)) = insert 11 (Ring.behindSet (NB := 12) 1 12) := by decide
  rw [e, bigSep_insert (by decide)]; rfl

theorem exit2 (YB) (T : ℕ) (hT : T = 12) :
    resAt2 c XA HA O0 arg4 arg5 YB g4 g5 T ⊢ iprop(yP c YB ∗ P4 c arg4 g4 ∗ P5 c arg5 g5 ∗ (∃ W, owes (c : Thread nD τ) 0 W)
      ∗ bigSep Finset.univ (homeX c XA) ∗ bigSep Finset.univ (homeH c HA)
      ∗ bigSep (Ring.behindSet 1 12) (homeO c (OUT c XA HA O0 arg4 arg5 YB g4 g5)) ∗ restB c ∗ restC c
      ∗ (∃ f, flightD c (OUT c XA HA O0 arg4 arg5 YB g4 g5) 1 11 f) ∗ cellD c 0 ∗ ∃ f, slotD c 0 f) := by
  subst hT
  rw [resAt2_last c XA HA O0 arg4 arg5 YB g4 g5 12 (by decide), Ring.homeSet_last 1 12 (by decide), show Ring.sl 2 12 = 0 from Fin.ext (by rfl),
    show Ring.sl 2 (12 + 1) = 1 from Fin.ext (by rfl), show Ring.bk 12 (12 - 1) = 11 from Fin.ext (by rfl)]
  iintro ⟨HY, H4, H5, HW, HX, HH, -, HO, HB, HC, HF, HcD, HsD⟩
  isplitl [HY]; · iexact HY
  isplitl [H4]; · iexact H4
  isplitl [H5]; · iexact H5
  isplitl [HW]; · iexact HW
  isplitl [HX]; · iexact HX
  isplitl [HH]; · iexact HH
  isplitl [HO]; · iexact HO
  isplitl [HB]; · iexact HB
  isplitl [HC]; · iexact HC
  isplitl [HF]; · iexact HF
  isplitl [HcD]; · iexact HcD
  iexact HsD

/-- What the body leaves in the result. -/
def finalOut : Buf (Elt F) (oM.view.loc (c : Thread nD τ)) :=
  OUT c XA HA O0 arg4 arg5 (yM.view.rep (gates c XA arg2 arg3 g2 g3)) g4 g5

/-- What the body is handed: its four staged windows, the sums' buffer, its waits, all blocks, the rings at rest. -/
def PRE (fy : Buf (Elt F) (yM.view.loc (c : Thread nD τ))) (W : Waits sig Unit) : sProp 𝕄 :=
  iprop(P2 c arg2 g2 ∗ P3 c arg3 g3 ∗ P4 c arg4 g4 ∗ P5 c arg5 g5 ∗ yP c fy ∗ owes (c : Thread nD τ) 0 W
      ∗ bigSep Finset.univ (homeX c XA) ∗ bigSep Finset.univ (homeH c HA) ∗ bigSep Finset.univ (homeO c O0)
      ∗ restA c ∗ restB c ∗ restC c ∗ restD c)
/-- What it hands back: the same, the result's blocks at the whole result. -/
def POST : sProp 𝕄 :=
  iprop(P2 c arg2 g2 ∗ P3 c arg3 g3 ∗ P4 c arg4 g4 ∗ P5 c arg5 g5 ∗ (∃ fy, yP c fy) ∗ (∃ W, owes (c : Thread nD τ) 0 W)
      ∗ bigSep Finset.univ (homeX c XA) ∗ bigSep Finset.univ (homeH c HA)
      ∗ bigSep Finset.univ (homeO c (finalOut c XA HA O0 arg2 arg3 arg4 arg5 g2 g3 g4 g5))
      ∗ restA c ∗ restB c ∗ restC c ∗ restD c)

attribute [local irreducible] resAt1 resAt2 in
attribute [local sl_canon] sl2_0 sl2_1 bk12_0 in
/-- The whole body runs from the one to the other. -/
theorem bodyRun (W fy) (Q : PUnit → sProp 𝕄) :
    iprop(PRE c XA HA O0 arg2 arg3 arg4 arg5 g2 g3 g4 g5 fy W ∗ (POST c XA HA O0 arg2 arg3 arg4 arg5 g2 g3 g4 g5 -∗ Q ⟨⟩))
    ⊢ wp frame (wpE (defs₀ (F := F)) 𝒱₀ (c : Thread nD τ) none) Set.univ (bodyG arg2 harg2 arg3 harg3 arg4 harg4 arg5 harg5) Q := by
  unfold PRE POST
  rw [homesX_zero, homesH_zero]
  iintro ⟨⟨H2, H3, H4, H5, HY, HW, ⟨Hx0, HX⟩, ⟨Hh0, HH⟩, HO, ⟨⟨HcA, ⟨%fa, HsA⟩⟩, HcA1, HsA1⟩, HB, HC, HD⟩, Hk⟩
  sl_exec
  ihave R := (enter1 c XA fy W _) $$ [HY HW HX HcA HsA1 HcA1]
  · isplitl [HY]; · iexact HY
    isplitl [HW]; · iexact HW
    isplitl [HX]; · iexact HX
    isplitl [HcA]; · iexact HcA
    isplitl [HcA1]; · iexact HcA1
    iexact HsA1
  sl_exec
  ihave R2 := (exit1 c XA k0_t1_loop.trips trips1) $$ R
  icases R2 with ⟨⟨%fz, %hz, HY⟩, ⟨%W2, HW⟩, Hx0, HX, HA⟩
  icases HB with ⟨⟨HcB, ⟨%fb, HsB⟩⟩, HcB1, HsB1⟩
  icases HC with ⟨⟨HcC, ⟨%fc, HsC⟩⟩, HcC1, HsC1⟩
  sl_exec
  have eg : yM.view.read (Elt F) (yM.view.writes (Elt F) yM.view.junk (bodyRun.sl.HY_1 c arg2 arg3 g2 g3 fz)) = gates c XA arg2 arg3 g2 g3 := by
    unfold bodyRun.sl.HY_1
    exact (View.read_writes_full _ _ _ _ _).trans (gates_loads c XA arg2 arg3 g2 g3 fz hz _ _ _)
  ihave HY' := (pointsTo_rep_entails (c : Thread nD τ) yM _ fullShare) $$ HY
  rw [eg]
  ihave R := (enter2 c XA HA O0 arg4 arg5 g4 g5 (yM.view.rep (gates c XA arg2 arg3 g2 g3)) W2 fb fc) $$ [HY' H4 H5 HW HX HH HO HcB HcB1 HsB1 HcC HcC1 HsC1 HD]
  · isplitl [HY']; · iexact HY'
    isplitl [H4]; · iexact H4
    isplitl [H5]; · iexact H5
    isplitl [HW]; · iexact HW
    isplitl [HX]; · iexact HX
    isplitl [HH]; · iexact HH
    isplitl [HO]; · iexact HO
    isplitl [HcB]; · iexact HcB
    isplitl [HcB1]; · iexact HcB1
    isplitl [HsB1]; · iexact HsB1
    isplitl [HcC]; · iexact HcC
    isplitl [HcC1]; · iexact HcC1
    isplitl [HsC1]; · iexact HsC1
    iexact HD
  sl_exec
  ihave R3 := (exit2 c XA HA O0 arg4 arg5 g4 g5 (yM.view.rep (gates c XA arg2 arg3 g2 g3)) k0_t2_loop.trips trips2) $$ R
  icases R3 with ⟨HY, H4, H5, ⟨%W3, HW⟩, HX, HH, HO, HB, HC, ⟨%fd, HF⟩, HcD, HsD⟩
  have h8 : k0_chk8 (nOut k0_t2_loop.trips) := by rw [trips2]; exact chk8_ok
  have h9 : k0_chk9 (nHi k0_t2_loop.trips) (nBi k0_t2_loop.trips) := by rw [trips2]; exact chk9_ok
  sl_exec
  sl_step
  iapply Hk
  isplitl [H2]; · iexact H2
  isplitl [H3]; · iexact H3
  isplitl [H4]; · iexact H4
  isplitl [H5]; · iexact H5
  isplitl [HY]; · iexists _; iexact HY
  isplitl [HW]; · iexists _; iexact HW
  isplitl [HX]; · irw [← homesX_zero]; iexact HX
  isplitl [HH]; · irw [← homesH_zero]; iexact HH
  isplitl [HF_dst HO]
  · irw [behindO]
    isplitl [HF_dst]; · iexact HF_dst
    iexact HO
  isplitl [HA]; · iexact HA
  isplitl [HB]; · iexact HB
  isplitl [HC]; · iexact HC
  isplitl [HcD HsD]
  · isplitl [HcD]; · iexact HcD
    iexact HsD
  isplitl [HF]; · iexact HF
  iexists _; iexact HF_src
end Body
end Cert.Proof.KernelIdeal

end
-- ==== Proof.KernelIdeal.Pieces.lean ====
/-
  Whole buffers and their parts: the image, the halo array and the result in twelve parts each, every ring in
  its two slots, and the kernel's own semaphores.
-/
module

public import proofs.«01_k».proof.Proof.KernelIdeal.Body
public import proofs.«01_k».proof.Proof.Gen.KernelIdeal.Frame

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Pieces3

theorem of_equal {P Q : sProp 𝕄} (e : P = Q) : P ⊢ Q := e ▸ .rfl

/-- The kernel's own semaphores: the four rings' two cells each. -/
abbrev osem : Fin 8 → SemLoc sig := fun
  | 0 => .dma (cmA 0).sem | 1 => .dma (cmA 1).sem | 2 => .dma (cmB 0).sem | 3 => .dma (cmB 1).sem
  | 4 => .dma (cmC 0).sem | 5 => .dma (cmC 1).sem | 6 => .dma (cmD 0).sem | 7 => .dma (cmD 1).sem
theorem ownSemFacts : Pipeline.OwnSemFacts spec0 osem := by decide

/-! ## Element sets: a ring's two slots, the halo rows -/

abbrev slotSet (s : Fin 2) : Finset S2x1x96x64x384.Idx := (Rect.unit (s := S2x1x96x64x384) (slotOff s) S1x1x96x64x384.size (slotOff_inb s)).set
abbrev slotSetH (s : Fin 2) : Finset S2x1x1x96x384.Idx := (Rect.unit (s := S2x1x1x96x384) (slotOff s) S1x1x1x96x384.size (slotOffH_inb s)).set
abbrev rowSet (b : Fin 12) : Finset S2x6x96x384.Idx := (Rect.unit (s := S2x6x96x384) (rowOff b) S1x1x96x384.size (rowOff_inb b)).set

theorem mem_slotSet (s : Fin 2) (y : S2x1x96x64x384.Idx) : y ∈ slotSet s ↔ (y 0).val = s.val := by
  rw [Rect.mem_set_unit]
  have h1 : (y 1).val < 1 := (y 1).isLt
  have h2 : (y 2).val < 96 := (y 2).isLt
  have h3 : (y 3).val < 64 := (y 3).isLt
  have h4 : (y 4).val < 384 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 96; omega
    · show 0 ≤ (y 3).val ∧ (y 3).val < 0 + 64; omega
    · show 0 ≤ (y 4).val ∧ (y 4).val < 0 + 384; omega
theorem mem_slotSetH (s : Fin 2) (y : S2x1x1x96x384.Idx) : y ∈ slotSetH s ↔ (y 0).val = s.val := by
  rw [Rect.mem_set_unit]
  have h1 : (y 1).val < 1 := (y 1).isLt
  have h2 : (y 2).val < 1 := (y 2).isLt
  have h3 : (y 3).val < 96 := (y 3).isLt
  have h4 : (y 4).val < 384 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 96; omega
    · show 0 ≤ (y 4).val ∧ (y 4).val < 0 + 384; omega
theorem mem_rowSet (b : Fin 12) (y : S2x6x96x384.Idx) : y ∈ rowSet b ↔ 6 * (y 0).val + (y 1).val = b.val := by
  rw [Rect.mem_set_unit]
  have hb := b.isLt
  have h0 : (y 0).val < 2 := (y 0).isLt
  have h1 : (y 1).val < 6 := (y 1).isLt
  have h2 : (y 2).val < 96 := (y 2).isLt
  have h3 : (y 3).val < 384 := (y 3).isLt
  constructor
  · intro H
    have a0 : b.val / 6 ≤ (y 0).val ∧ (y 0).val < b.val / 6 + 1 := H 0
    have a1 : b.val % 6 ≤ (y 1).val ∧ (y 1).val < b.val % 6 + 1 := H 1
    omega
  · intro H i; fin_cases i
    · show b.val / 6 ≤ (y 0).val ∧ (y 0).val < b.val / 6 + 1; omega
    · show b.val % 6 ≤ (y 1).val ∧ (y 1).val < b.val % 6 + 1; omega
    · show 0 ≤ (y 2).val ∧ (y 2).val < 0 + 96; omega
    · show 0 ≤ (y 3).val ∧ (y 3).val < 0 + 384; omega

theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; exact ⟨(y 0).cast (by decide), by rw [mem_slotSet]; rfl⟩
theorem slotSetH_disjoint : ∀ s s' : Fin 2, s ≠ s' → Disjoint (slotSetH s) (slotSetH s') := by
  intro s s' hne; rw [Finset.disjoint_left]; intro y hy hy'; rw [mem_slotSetH] at hy hy'; exact hne (Fin.ext (hy.symm.trans hy'))
theorem slotSetH_cover : (Finset.univ : Finset (Fin 2)).biUnion slotSetH = Finset.univ := by
  ext y; simp only [Finset.mem_biUnion, Finset.mem_univ, true_and, iff_true]; exact ⟨(y 0).cast (by decide), by rw [mem_slotSetH]; rfl⟩
theorem rowSet_disjoint : ∀ s s' : Fin 12, s ≠ s' → Disjoint (rowSet s) (rowSet s') := by
  intro s s' hne; rw [Finset.disjoint_left]; intro y hy hy'; rw [mem_rowSet] at hy hy'; exact hne (Fin.ext (hy.symm.trans hy'))
theorem rowSet_cover : (Finset.univ : Finset (Fin 12)).biUnion rowSet = Finset.univ := by
  ext y; simp only [Finset.mem_biUnion, Finset.mem_univ, true_and, iff_true]
  have h0 : (y 0).val < 2 := (y 0).isLt
  have h1 : (y 1).val < 6 := (y 1).isLt
  exact ⟨⟨6 * (y 0).val + (y 1).val, by omega⟩, by rw [mem_rowSet]⟩
theorem blkSet_disjoint : ∀ s s' : Fin 12, s ≠ s' → Disjoint (blkSet s) (blkSet s') := by
  intro s s' hne; rw [Finset.disjoint_left]; intro y hy hy'; rw [mem_blkSet] at hy hy'; exact hne (hy.symm.trans hy')
theorem blkSet_cover : (Finset.univ : Finset (Fin 12)).biUnion blkSet = Finset.univ := by
  ext y; simp only [Finset.mem_biUnion, Finset.mem_univ, true_and, iff_true]
  exact ⟨blkOf y, by rw [mem_blkSet]⟩

theorem two_of (Φ : Fin 2 → sProp 𝕄) : bigSep Finset.univ Φ = iprop(Φ 0 ∗ Φ 1) :=
  bigSep_univ_eq_bigSepL [(0 : Fin 2), (1 : Fin 2)] (by decide) (by decide) Φ
theorem eight_of (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The image whole is its twelve blocks at home; likewise the halo array's rows and the result's blocks. -/
theorem x_eq (c : Dev nD) (X : Buf (Elt F) ((c : Thread nD τ).loc main_arg0)) :
    (((c : Thread nD τ).loc main_arg0) ↦{fullShare} X : sProp 𝕄) = bigSep Finset.univ (homeX c X) := by
  rw [Ring.pointsTo_blocks (ℓ := (c : Thread nD τ).loc main_arg0) blkSet blkSet_disjoint blkSet_cover]
  exact bigSep_congr fun b _ => by rw [← xblk_set]; rfl
theorem h_eq (c : Dev nD) (X : Buf (Elt F) ((c : Thread nD τ).loc main_call0_v3)) :
    (((c : Thread nD τ).loc main_call0_v3) ↦{fullShare} X : sProp 𝕄) = bigSep Finset.univ (homeH c X) := by
  rw [Ring.pointsTo_blocks (ℓ := (c : Thread nD τ).loc main_call0_v3) rowSet rowSet_disjoint rowSet_cover]
  exact bigSep_congr fun b _ => by rw [← show (hblk b : Memref sig .tc .hbm _ _).view.set = rowSet b from View.set_slice_whole _ _]; rfl
theorem o_eq (c : Dev nD) (X : Buf (Elt F) ((c : Thread nD τ).loc main_v0)) :
    (((c : Thread nD τ).loc main_v0) ↦{fullShare} X : sProp 𝕄) = bigSep Finset.univ (homeO c X) := by
  rw [Ring.pointsTo_blocks (ℓ := (c : Thread nD τ).loc main_v0) blkSet blkSet_disjoint blkSet_cover]
  exact bigSep_congr fun b _ => by rw [← oblk_set]; rfl
theorem y_eq (c : Dev nD) (f : Buf (Elt F) ((c : Thread nD τ).loc cc0_scratch0)) :
    yP c f = (((c : Thread nD τ).loc cc0_scratch0) ↦{fullShare} f : sProp 𝕄) :=
  congrArg (fun S => (_ ↦[S]{fullShare} f : sProp 𝕄)) (View.set_whole _)

theorem slotA_eq (c : Dev nD) (s : Fin 2) (f) : slotA c s f = (((c : Thread nD τ).loc cc0_scoped0) ↦[slotSet s]{fullShare} f : sProp 𝕄) :=
  congrArg (fun S => (_ ↦[S]{fullShare} f : sProp 𝕄)) ((View.set_reshape _ _).trans (View.set_slice_whole _ _))
/-- Ring A whole is its two slots, and back. -/
theorem splitA (c : Dev nD) :
    iprop(∃ f : Buf (Elt F) ((c : Thread nD τ).loc cc0_scoped0), ((c : Thread nD τ).loc cc0_scoped0) ↦{fullShare} f)
      ⊢ (iprop((∃ f, slotA c 0 f) ∗ ∃ f, slotA c 1 f) : sProp 𝕄) := by
  iintro ⟨%f, H⟩
  ihave H2 := (of_equal ((Ring.pointsTo_blocks (Ix := Unit) (Name := ℕ) (U := UU nD τ) (Lvl := ℕ) (q := fullShare) (ℓ := (c : Thread nD τ).loc cc0_scoped0) slotSet slotSet_disjoint slotSet_cover f).trans (two_of _))) $$ H
  icases H2 with ⟨H0, H1⟩
  isplitl [H0]
  · iexists f; iapply (of_equal (slotA_eq c 0 f).symm); iexact H0
  · iexists f; iapply (of_equal (slotA_eq c 1 f).symm); iexact H1
theorem joinA (c : Dev nD) :
    iprop((∃ f, slotA c 0 f) ∗ ∃ f, slotA c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) slotSet slotSet_disjoint slotSet_cover f0)
  irw [two_of]
  isplitl [H0]
  · iexists f0; iapply (of_equal (slotA_eq c 0 f0)); iexact H0
  · iexists f1; iapply (of_equal (slotA_eq c 1 f1)); iexact H1

theorem slotB_eq (c : Dev nD) (s : Fin 2) (f) : slotB c s f = (((c : Thread nD τ).loc cc0_scoped2) ↦[slotSet s]{fullShare} f : sProp 𝕄) :=
  congrArg (fun S => (_ ↦[S]{fullShare} f : sProp 𝕄)) ((View.set_reshape _ _).trans (View.set_slice_whole _ _))
/-- Ring B whole is its two slots, and back. -/
theorem splitB (c : Dev nD) :
    iprop(∃ f : Buf (Elt F) ((c : Thread nD τ).loc cc0_scoped2), ((c : Thread nD τ).loc cc0_scoped2) ↦{fullShare} f)
      ⊢ (iprop((∃ f, slotB c 0 f) ∗ ∃ f, slotB c 1 f) : sProp 𝕄) := by
  iintro ⟨%f, H⟩
  ihave H2 := (of_equal ((Ring.pointsTo_blocks (Ix := Unit) (Name := ℕ) (U := UU nD τ) (Lvl := ℕ) (q := fullShare) (ℓ := (c : Thread nD τ).loc cc0_scoped2) slotSet slotSet_disjoint slotSet_cover f).trans (two_of _))) $$ H
  icases H2 with ⟨H0, H1⟩
  isplitl [H0]
  · iexists f; iapply (of_equal (slotB_eq c 0 f).symm); iexact H0
  · iexists f; iapply (of_equal (slotB_eq c 1 f).symm); iexact H1
theorem joinB (c : Dev nD) :
    iprop((∃ f, slotB c 0 f) ∗ ∃ f, slotB c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) slotSet slotSet_disjoint slotSet_cover f0)
  irw [two_of]
  isplitl [H0]
  · iexists f0; iapply (of_equal (slotB_eq c 0 f0)); iexact H0
  · iexists f1; iapply (of_equal (slotB_eq c 1 f1)); iexact H1

theorem slotC_eq (c : Dev nD) (s : Fin 2) (f) : slotC c s f = (((c : Thread nD τ).loc cc0_scoped4) ↦[slotSetH s]{fullShare} f : sProp 𝕄) :=
  congrArg (fun S => (_ ↦[S]{fullShare} f : sProp 𝕄)) ((View.set_reshape _ _).trans (View.set_slice_whole _ _))
/-- Ring C whole is its two slots, and back. -/
theorem splitC (c : Dev nD) :
    iprop(∃ f : Buf (Elt F) ((c : Thread nD τ).loc cc0_scoped4), ((c : Thread nD τ).loc cc0_scoped4) ↦{fullShare} f)
      ⊢ (iprop((∃ f, slotC c 0 f) ∗ ∃ f, slotC c 1 f) : sProp 𝕄) := by
  iintro ⟨%f, H⟩
  ihave H2 := (of_equal ((Ring.pointsTo_blocks (Ix := Unit) (Name := ℕ) (U := UU nD τ) (Lvl := ℕ) (q := fullShare) (ℓ := (c : Thread nD τ).loc cc0_scoped4) slotSetH slotSetH_disjoint slotSetH_cover f).trans (two_of _))) $$ H
  icases H2 with ⟨H0, H1⟩
  isplitl [H0]
  · iexists f; iapply (of_equal (slotC_eq c 0 f).symm); iexact H0
  · iexists f; iapply (of_equal (slotC_eq c 1 f).symm); iexact H1
theorem joinC (c : Dev nD) :
    iprop((∃ f, slotC c 0 f) ∗ ∃ f, slotC c 1 f)
      ⊢ (iprop(∃ f : Buf (Elt F) ((c : Thread nD τ).loc cc0_scoped4), ((c : Thread nD τ).loc cc0_scoped4) ↦{fullShare} f) : sProp 𝕄) := by
  iintro ⟨⟨%f0, H0⟩, ⟨%f1, H1⟩⟩
  iapply (Ring.pointsTo_blocks_join_exists (ℓ := (c : Thread nD τ).loc cc0_scoped4) slotSetH slotSetH_disjoint slotSetH_cover f0)
  irw [two_of]
  isplitl [H0]
  · iexists f0; iapply (of_equal (slotC_eq c 0 f0)); iexact H0
  · iexists f1; iapply (of_equal (slotC_eq c 1 f1)); iexact H1

theorem slotD_eq (c : Dev nD) (s : Fin 2) (f) : slotD c s f = (((c : Thread nD τ).loc cc0_scoped6) ↦[slotSet s]{fullShare} f : sProp 𝕄) :=
  congrArg (fun S => (_ ↦[S]{fullShare} f : sProp 𝕄)) ((View.set_reshape _ _).trans (View.set_slice_whole _ _))
/-- Ring D whole is its two slots, and back. -/
theorem splitD (c : Dev nD) :
    iprop(∃ f : Buf (Elt F) ((c : Thread nD τ).loc cc0_scoped6), ((c : Thread nD τ).loc cc0_scoped6) ↦{fullShare} f)
      ⊢ (iprop((∃ f, slotD c 0 f) ∗ ∃ f, slotD c 1 f) : sProp 𝕄) := by
  iintro ⟨%f, H⟩
  ihave H2 := (of_equal ((Ring.pointsTo_blocks (Ix := Unit) (Name := ℕ) (U := UU nD τ) (Lvl := ℕ) (q := fullShare) (ℓ := (c : Thread nD τ).loc cc0_scoped6) slotSet slotSet_disjoint slotSet_cover f).trans (two_of _))) $$ H
  icases H2 with ⟨H0, H1⟩
  isplitl [H0]
  · iexists f; iapply (of_equal (slotD_eq c 0 f).symm); iexact H0
  · iexists f; iapply (of_equal (slotD_eq c 1 f).symm); iexact H1
theorem joinD (c : Dev nD) :
    iprop((∃ f, slotD c 0 f) ∗ ∃ f, slotD c 1 f)
      ⊢ (iprop(∃ f : Buf (Elt F) ((c : Thread nD τ).loc cc0_scoped6), ((c : Thread nD τ).loc cc0_scoped6) ↦{fullShare} f) : sProp 𝕄) := by
  iintro ⟨⟨%f0, H0⟩, ⟨%f1, H1⟩⟩
  iapply (Ring.pointsTo_blocks_join_exists (ℓ := (c : Thread nD τ).loc cc0_scoped6) slotSet slotSet_disjoint slotSet_cover f0)
  irw [two_of]
  isplitl [H0]
  · iexists f0; iapply (of_equal (slotD_eq c 0 f0)); iexact H0
  · iexists f1; iapply (of_equal (slotD_eq c 1 f1)); iexact H1

/-- The kernel's own cells at zero are the rings' cells. -/
theorem ownSems0_eq (c : Dev nD) : (Pipeline.ownSems0 (Ix := Unit) (Name := ℕ) (U := UU nD τ) (Lvl := ℕ) (Val := Elt F) (τ := τ) osem c : sProp 𝕄)
    = iprop(cellA c 0 ∗ cellA c 1 ∗ cellB c 0 ∗ cellB c 1 ∗ cellC c 0 ∗ cellC c 1 ∗ cellD c 0 ∗ cellD c 1) := by
  unfold Pipeline.ownSems0; rw [eight_of]
end Pieces3
end Cert.Proof.KernelIdeal

end
-- ==== Proof.KernelIdeal.Launch.lean ====
/-
  The launch: the region's invariant and its body, and the run of the whole program from any memory.
-/
module

public import proofs.«01_k».proof.Proof.KernelIdeal.Pieces
public import proofs.«01_k».proof.Proof.Gen.KernelIdeal.Frame

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

section Launch
variable (m : (ℓ : Loc nD τ sig) → Buf (Elt F) ℓ) (ρ : Dev nD → PrngReg)

abbrev XA (c : Dev nD) : Buf (Elt F) (xM.view.loc (c : Thread nD τ)) := V m c main_arg0
abbrev HA (c : Dev nD) : Buf (Elt F) (hM.view.loc (c : Thread nD τ)) := V m c main_call0_v3
abbrev OA (c : Dev nD) : Buf (Elt F) (oM.view.loc (c : Thread nD τ)) := V m c main_v0

abbrev st0 (t : Fin cfg0.N) : Memref sig .tc .vmem S96x6 .f32 := win0_0.stage (cfg0.slots t 0)
abbrev st1 (t : Fin cfg0.N) : Memref sig .tc .vmem S6x96 .f32 := win0_1.stage (cfg0.slots t 1)
abbrev st2 (t : Fin cfg0.N) : Memref sig .tc .vmem S96x96 .f32 := win0_2.stage (cfg0.slots t 2)
abbrev st3 (t : Fin cfg0.N) : Memref sig .tc .vmem S1x96 .f32 := win0_3.stage (cfg0.slots t 3)

/-- What the region leaves in the result. -/
def outAt (c : Dev nD) (t : Fin cfg0.N) : Buf (Elt F) (oM.view.loc (c : Thread nD τ)) :=
  finalOut c (XA m c) (HA m c) (OA m c) (st0 t) (st1 t) (st2 t) (st3 t)
    ((st0 t).view.rep (iblk m c 0 t)) ((st1 t).view.rep (iblk m c 1 t)) ((st2 t).view.rep (iblk m c 2 t)) ((st3 t).view.rep (iblk m c 3 t))

/-- The region's invariant, with the result at `O`: the blocks home, the sums' buffer at anything, the rings at rest. -/
def phi (c : Dev nD) (O : Buf (Elt F) (oM.view.loc (c : Thread nD τ))) : sProp 𝕄 :=
  iprop((∃ fy, yP c fy) ∗ bigSep Finset.univ (homeX c (XA m c)) ∗ bigSep Finset.univ (homeH c (HA m c)) ∗ bigSep Finset.univ (homeO c O)
    ∗ restA c ∗ restB c ∗ restC c ∗ restD c)
def phiAt (c : Dev nD) (n : ℕ) : sProp 𝕄 := phi m c (if n = 0 then OA m c else outAt m c t0_0)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := phiAt m c t.val
  q _ := fullShare
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem after_w0 (c : Dev nD) (t : Fin cfg0.N) : (dats m 0 c).after 0 t = iblk m c 0 t := by dsimp only [dats]
theorem before_w1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem after_w1 (c : Dev nD) (t : Fin cfg0.N) : (dats m 0 c).after 1 t = iblk m c 1 t := by dsimp only [dats]
theorem before_w2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem after_w2 (c : Dev nD) (t : Fin cfg0.N) : (dats m 0 c).after 2 t = iblk m c 2 t := by dsimp only [dats]
theorem before_w3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem after_w3 (c : Dev nD) (t : Fin cfg0.N) : (dats m 0 c).after 3 t = iblk m c 3 t := by dsimp only [dats]

theorem phi_first (c : Dev nD) (t : Fin (cfg0.N + 1)) (h : t.val = 0) : (dats m 0 c).Φ t = phi m c (OA m c) := by
  show phiAt m c t.val = _
  unfold phiAt; rw [if_pos h]
theorem phi_then (c : Dev nD) (t : Fin (cfg0.N + 1)) (h : t.val ≠ 0) : (dats m 0 c).Φ t = phi m c (outAt m c t0_0) := by
  show phiAt m c t.val = _
  unfold phiAt; rw [if_neg h]
theorem last_pos : (Fin.last cfg0.N).val ≠ 0 := by
  show grid0.N ≠ 0
  rw [N_0]; decide

/-- The body table's entry is the kernel on the point's staging buffers. -/
theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0 t) (hstage0_0 0) (st1 t) (hstage0_1 0) (st2 t) (hstage0_2 0) (st3 t) (hstage0_3 0) :=
  (congrFun defs_tc _).trans rfl

set_option backward.isDefEq.respectTransparency.types false in
/-- The body keeps the windows and takes the invariant with the result as found to the invariant with it computed. -/
theorem body_obligation (c : Dev nD) : BodyObligation (dats (F := F) m 0 c) (defs₀ (F := F)) 𝒱₀ () Set.univ := fun t => by
  obtain rfl := fin_N0 t
  rw [bigSep_W0, bigSep_W0]
  dsimp only
  simp only [before_w0, before_w1, before_w2, before_w3, after_w0, after_w1, after_w2, after_w3]
  rw [phi_first m c t0_0.castSucc rfl, phi_then m c t0_0.succ (Nat.succ_ne_zero _)]
  unfold Dat.owesAt Pipeline.owesWithin
  rw [show (dats m 0 c).owed t0_0.castSucc = 0 from rfl, show (dats m 0 c).owed t0_0.succ = 0 from rfl]
  unfold owns phi
  iintro ⟨⟨⟨%fy, HY⟩, HX, HH, HO, HA, HB, HC, HD⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (st0 t0_0) g0 fullShare) $$ H0
  rw [hg0]
  ihave H1' := (pointsTo_rep_entails (c : Thread nD τ) (st1 t0_0) g1 fullShare) $$ H1
  rw [hg1]
  ihave H2' := (pointsTo_rep_entails (c : Thread nD τ) (st2 t0_0) g2 fullShare) $$ H2
  rw [hg2]
  ihave H3' := (pointsTo_rep_entails (c : Thread nD τ) (st3 t0_0) g3 fullShare) $$ H3
  rw [hg3]
  sl_rw [prog_eq t0_0]
  iapply (bodyRun c (XA m c) (HA m c) (OA m c) (st0 t0_0) (hstage0_0 0) (st1 t0_0) (hstage0_1 0) (st2 t0_0) (hstage0_2 0) (st3 t0_0) (hstage0_3 0)
    ((st0 t0_0).view.rep (iblk m c 0 t0_0)) ((st1 t0_0).view.rep (iblk m c 1 t0_0)) ((st2 t0_0).view.rep (iblk m c 2 t0_0)) ((st3 t0_0).view.rep (iblk m c 3 t0_0)) W fy)
  unfold PRE POST
  isplitl [H0' H1' H2' H3' HY HW HX HH HO HA HB HC HD]
  · isplitl [H0']; · iexact H0'
    isplitl [H1']; · iexact H1'
    isplitl [H2']; · iexact H2'
    isplitl [H3']; · iexact H3'
    isplitl [HY]; · iexact HY
    isplitl [HW]; · iexact HW
    isplitl [HX]; · iexact HX
    isplitl [HH]; · iexact HH
    isplitl [HO]; · iexact HO
    isplitl [HA]; · iexact HA
    isplitl [HB]; · iexact HB
    isplitl [HC]; · iexact HC
    iexact HD
  · iintro ⟨H0, H1, H2, H3, HY, ⟨%W', HW⟩, HX, HH, HO, HA, HB, HC, HD⟩
    isplitl [HY HX HH HO HA HB HC HD]
    · isplitl [HY]; · iexact HY
      isplitl [HX]; · iexact HX
      isplitl [HH]; · iexact HH
      isplitl [HO]; · iexact HO
      isplitl [HA]; · iexact HA
      isplitl [HB]; · iexact HB
      isplitl [HC]; · iexact HC
      iexact HD
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr; · ipureintro; exact View.read_rep _ _
    iexact H3

/-! ## The run -/

def intoX (c : Dev nD) : sProp 𝕄 :=
  iprop(bigSep Finset.univ (homeX c (XA m c)) ∗ bigSep Finset.univ (homeH c (HA m c)) ∗ bigSep Finset.univ (homeO c (OA m c)) ∗ Pipeline.ownSems0 osem c)
def outY (c : Dev nD) : sProp 𝕄 :=
  iprop((((c : Thread nD τ).loc main_arg0) ↦{fullShare} V m c main_arg0) ∗ ((c : Thread nD τ).loc main_v0) ↦{fullShare} outAt m c t0_0)
def keptZ (c : Dev nD) : sProp 𝕄 :=
  iprop((((c : Thread nD τ).loc main_arg1) ↦{fullShare} V m c main_arg1) ∗ (((c : Thread nD τ).loc main_arg2) ↦{fullShare} V m c main_arg2)
    ∗ ((c : Thread nD τ).loc main_arg4) ↦{fullShare} V m c main_arg4)
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = V m c main_arg0 ∧ s.mem ((c : Thread nD τ).loc main_v0) = outAt m c t0_0
    ∧ s.mem ((c : Thread nD τ).loc main_arg1) = V m c main_arg1 ∧ s.mem ((c : Thread nD τ).loc main_arg2) = V m c main_arg2
    ∧ s.mem ((c : Thread nD τ).loc main_arg4) = V m c main_arg4
def QC : PUnit × MemSt nD τ sig (Elt F) → Prop := fun r =>
  ∀ c : Dev nD, (∀ w : Fin cfg0.W, r.2.mem ((cfg0.win w).arr.view.loc (c : Thread nD τ)) = finalA m c w) ∧ QY m c r.2

set_option maxHeartbeats 800000 in
set_option backward.isDefEq.respectTransparency.types false in
/-- Every weakly fair run of @main from zero counters ends with the result at `outAt`, the arguments as the host
    operations left them and every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoX m) (Y := outY m) (Z := keptZ m)
    (hX := fun c => by
      rw [unscopedRest0_eq, x_eq, h_eq, o_eq]
      unfold intoX keptZ
      iintro ⟨⟨H0, H1, H2, H4, -, -, -, -, HH, HO⟩, HS, -, -, -⟩; imodintro
      isplitl [H0 HH HO HS]
      · isplitl [H0]; · iexact H0
        isplitl [HH]; · iexact HH
        isplitl [HO]; · iexact HO
        iexact HS
      isplitl [H1]; · iexact H1
      isplitl [H2]; · iexact H2
      iexact H4)
    (hin := fun c => by
      rw [scopedRest0_eq, phi_first m c 0 rfl]
      unfold intoX phi; rw [ownSems0_eq]
      iintro ⟨⟨HX, HH, HO, A0, A1, B0, B1, C0, C1, D0, D1⟩, ⟨%fy, HY⟩, HA, HB, HC, HD⟩
      ihave HA' := (splitA c) $$ HA
      icases HA' with ⟨HA0, HA1⟩
      ihave HB' := (splitB c) $$ HB
      icases HB' with ⟨HB0, HB1⟩
      ihave HC' := (splitC c) $$ HC
      icases HC' with ⟨HC0, HC1⟩
      ihave HD' := (splitD c) $$ HD
      icases HD' with ⟨HD0, HD1⟩
      isplitl [HY]; · iexists fy; iapply (of_equal (y_eq c fy).symm); iexact HY
      isplitl [HX]; · iexact HX
      isplitl [HH]; · iexact HH
      isplitl [HO]; · iexact HO
      isplitl [A0 A1 HA0 HA1]
      · isplitl [A0 HA0]
        · isplitl [A0]; · iexact A0
          iexact HA0
        isplitl [A1]; · iexact A1
        iexact HA1
      isplitl [B0 B1 HB0 HB1]
      · isplitl [B0 HB0]
        · isplitl [B0]; · iexact B0
          iexact HB0
        isplitl [B1]; · iexact B1
        iexact HB1
      isplitl [C0 C1 HC0 HC1]
      · isplitl [C0 HC0]
        · isplitl [C0]; · iexact C0
          iexact HC0
        isplitl [C1]; · iexact C1
        iexact HC1
      isplitl [D0 HD0]
      · isplitl [D0]; · iexact D0
        iexact HD0
      isplitl [D1]; · iexact D1
      iexact HD1)
    (hout := fun c => by
      rw [scopedRest0_eq, phi_then m c (Fin.last cfg0.N) last_pos, ownSems0_eq]
      unfold phi outY; rw [x_eq, o_eq]
      iintro ⟨⟨%fy, HY⟩, HX, HH, HO, ⟨⟨A0, HA0⟩, A1, HA1⟩, ⟨⟨B0, HB0⟩, B1, HB1⟩, ⟨⟨C0, HC0⟩, C1, HC1⟩, ⟨⟨D0, HD0⟩, D1, HD1⟩⟩
      isplitl [HX HO]
      · isplitl [HX]; · iexact HX
        iexact HO
      isplitl [A0 A1 B0 B1 C0 C1 D0 D1]
      · isplitl [A0]; · iexact A0
        isplitl [A1]; · iexact A1
        isplitl [B0]; · iexact B0
        isplitl [B1]; · iexact B1
        isplitl [C0]; · iexact C0
        isplitl [C1]; · iexact C1
        isplitl [D0]; · iexact D0
        iexact D1
      isplitl [HY]; · iexists fy; iapply (of_equal (y_eq c fy)); iexact HY
      isplitl [HA0 HA1]
      · iapply (joinA c)
        isplitl [HA0]; · iexact HA0
        iexact HA1
      isplitl [HB0 HB1]
      · iapply (joinB c)
        isplitl [HB0]; · iexact HB0
        iexact HB1
      isplitl [HC0 HC1]
      · iapply (joinC c)
        isplitl [HC0]; · iexact HC0
        iexact HC1
      iapply (joinD c)
      isplitl [HD0]; · iexact HD0
      iexact HD1)
    (QY := QY m)
    (hY := fun c s' => by
      unfold outY keptZ
      iintro ⟨⟨H0, HO⟩, ⟨H1, H2, H4⟩, HSI⟩
      icombine HSI H0 gives %h0
      icombine HSI HO gives %hO
      icombine HSI H1 gives %h1
      icombine HSI H2 gives %h2
      icombine HSI H4 gives %h4
      imodintro
      isplitr
      · ipureintro
        exact ⟨Buf.eq_of_forall_mem_univ h0, Buf.eq_of_forall_mem_univ hO, Buf.eq_of_forall_mem_univ h1, Buf.eq_of_forall_mem_univ h2, Buf.eq_of_forall_mem_univ h4⟩
      iexact HSI)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- The run's end, at the arguments as launched and the result. -/
theorem run_end : θ_run defs (onTc (τ := τ) (main (F := F))) ⟨m, fun _ => 0, ρ⟩ (fun r => ∀ c : Dev nD,
      r.2.mem ((c.tc : Thread nD τ).loc main_v0) = outAt m c t0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.sem = fun _ => 0) :=
  (θ_run defs _ _).mono (fun _ hh c => ⟨(hh.1 c).2.2.1, (hh.1 c).2.1.trans (V_main_arg0 m c), (hh.1 c).2.2.2.1.trans (V_main_arg1 m c),
    (hh.1 c).2.2.2.2.1.trans (V_main_arg2 m c), ((hh.1 c).1 2).trans ((finalA_in m c 2 rfl).trans (V_main_arg3 m c)),
    (hh.1 c).2.2.2.2.2.trans (V_main_arg4 m c), hh.2⟩) (run_main m ρ)

end Launch
end Cert.Proof.KernelIdeal

end
-- ==== Proof.Frames.lean ====
/-
  The three frames and the named constant: each program runs, leaves its arguments as they were and every counter at
  zero, and the one constant that the idealized kernel names is the value its literal rounds.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch

@[expose] public section

noncomputable section

namespace Cert.Proof

open Idealize.ShloMosaic

/-- The kernel runs, leaves its five arguments unchanged and every counter at zero. -/
theorem frame_p : Cert.quiescent_Kernel := fun m ρ _ =>
  (θ_run Cert.Kernel.defs _ _).mono (fun _ h => ⟨fun c => ⟨(h c).2.1, (h c).2.2.1, (h c).2.2.2.1, (h c).2.2.2.2.1, (h c).2.2.2.2.2.1⟩, (h 0).2.2.2.2.2.2⟩)
    (Cert.Proof.Kernel.run_end (F := Bits) m ρ)

/-- The idealized kernel runs, leaves its five arguments unchanged and every counter at zero. -/
theorem frame_pi : Cert.quiescent_KernelIdeal := fun m ρ _ =>
  (θ_run Cert.KernelIdeal.defs _ _).mono (fun _ h => ⟨fun c => ⟨(h c).2.1, (h c).2.2.1, (h c).2.2.2.1, (h c).2.2.2.2.1, (h c).2.2.2.2.2.1⟩, (h 0).2.2.2.2.2.2⟩)
    (Cert.Proof.KernelIdeal.run_end (F := Ideal) m ρ)

/-- The reference runs and leaves its five arguments unchanged; it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant: 1/147456 is the real number that the kernel's literal rounds. -/
theorem preserves : Cert.preserves_Kernel_KernelIdeal :=
  IdealRules.named_const.statement Cert.KernelIdeal.κ "inv_n" .f32 0x36E38E39#32 ((147456⁻¹ : ℝ) : EReal) rfl

end Cert.Proof
-- ==== Proof.Value.Spec.lean ====
/-
  What both programs compute, in coordinates: the squeeze-and-excite gate, the linear map of the gated image at a pixel,
  and the sum over a pixel, the pixel above and the pixel to the left with the grid graph's symmetric weights.
-/
module

public import Idealize.ShloMosaic.Lib.Pointwise

@[expose] public section

noncomputable section

namespace Cert.Proof.Value

open Idealize.ShloMosaic

/-- The image, both weights of the gate, the weight of the graph convolution and its bias. -/
abbrev Img := (⟨4, ![2, 96, 384, 384]⟩ : Shape).Idx → EReal
abbrev Mat (n k : Nat) := (⟨2, ![n, k]⟩ : Shape).Idx → EReal
abbrev Vec1 (n : Nat) := (⟨1, ![n]⟩ : Shape).Idx → EReal

/-- One where `n` is positive, zero otherwise. -/
def pos (n : Nat) : EReal := if 0 < n then 1 else 0

/-- The number of edges into pixel `(i, j)` of the grid with its self loops. -/
def deg (i j : Nat) : EReal := 1 + pos i + pos j

/-- The inverse square root of that number. -/
def dinv (i j : Nat) : EReal := Ideal.rsqrt (deg i j)

/-- The sum of channel `c` of image `b`. -/
def total (x : Img) (b : Fin 2) (c : Fin 96) : EReal := ∑ i : Fin 384, ∑ j : Fin 384, x (ix4 b c i j)

/-- The hidden layer of the gate. -/
def hidden (x : Img) (w1 : Mat 6 96) (b : Fin 2) (r : Fin 6) : EReal :=
  max (∑ c : Fin 96, (total x b c * ((147456⁻¹ : ℝ) : EReal)) * w1 (ix2 r c)) 0

/-- The gate of channel `c` of image `b`. -/
def gate (x : Img) (w1 : Mat 6 96) (w2 : Mat 96 6) (b : Fin 2) (c : Fin 96) : EReal :=
  Ideal.logistic (∑ r : Fin 6, hidden x w1 b r * w2 (ix2 c r))

/-- The linear map of the gated image at pixel `(i, j)`, output channel `o`. -/
def lin (x : Img) (y : Fin 2 → Fin 96 → EReal) (wg : Mat 96 96) (b : Fin 2) (o : Fin 96) (i j : Fin 384) : EReal :=
  ∑ c : Fin 96, (wg (ix2 o c) * y b c) * x (ix4 b c i j)

/-- The pixel one step back along an axis. -/
abbrev back (i : Fin 384) : Fin 384 := ⟨i.val - 1, by omega⟩

/-- `lin` with the source pixel's weight. -/
def wlin (x : Img) (y : Fin 2 → Fin 96 → EReal) (wg : Mat 96 96) (b : Fin 2) (o : Fin 96) (i j : Fin 384) : EReal :=
  lin x y wg b o i j * dinv i j

/-- The result at `(b, o, i, j)` for a gate `y`. -/
def out (x : Img) (y : Fin 2 → Fin 96 → EReal) (wg : Mat 96 96) (bg : Vec1 96) (b : Fin 2) (o : Fin 96) (i j : Fin 384) : EReal :=
  (wlin x y wg b o i j + (if 0 < i.val then wlin x y wg b o (back i) j else 0) + (if 0 < j.val then wlin x y wg b o i (back j) else 0))
    * dinv i j + bg (ix1 o)

end Cert.Proof.Value
-- ==== Proof.Value.Consts.lean ====
/-
  The real numbers that the two literals 2.0 and 147456.0 stand for.
-/
module

public import Idealize.ShloMosaic.Lib.Pointwise

@[expose] public section

noncomputable section

namespace Cert.Proof.Value

open Idealize.ShloMosaic

/-- The literal 2.0. -/
theorem two_lit : Ideal.ofBits .f32 0x40000000#32 = (1 + 1 : EReal) := by
  have h : Ideal.ofBits .f32 0x40000000#32 = ((2 : ℝ) : EReal) := by
    simp [Ideal.ofBits, Ideal.ieee, -EReal.coe_mul]; norm_num
  rw [h, ← EReal.coe_one, ← EReal.coe_add]; norm_num

/-- The literal 147456.0, the number of pixels. -/
theorem count_lit : Ideal.ofBits .f32 0x48100000#32 = ((147456 : ℝ) : EReal) := by
  simp [Ideal.ofBits, Ideal.ieee, -EReal.coe_mul]; norm_num

end Cert.Proof.Value
-- ==== Proof.Value.Block.lean ====
/-
  What the body's pure computations are, element by element, on the extended reals: a block's channel sums, the two
  layers of the gate, and a block of the result.
-/
module

public import proofs.«01_k».proof.Proof.Value.Spec
public import proofs.«01_k».proof.Proof.Value.Consts
public import proofs.«01_k».proof.Proof.KernelIdeal.Launch

@[expose] public section

set_option maxRecDepth 16384

noncomputable section

namespace Cert.Proof.Value

open Cert.KernelIdeal Cert.KernelIdeal.Gen
open Idealize.ShloMosaic

/-- The printed test of a small word against zero, widened and made a float, is `pos`. -/
theorem pos_word (n : Nat) (hn : n < 2 ^ 31) :
    FloatOps.sitofp (F := Ideal) .f32 (BitVec.setWidth 32 (IntOp.cmpi .sgt (BitVec.ofNat 32 n) 0#32)) = pos n := by
  rw [WordCmp.cmpi_sgt_ofNat (by simpa using hn) (by decide)]
  unfold pos
  by_cases h : 0 < n
  · rw [if_pos h, decide_eq_true h]
    show (((BitVec.setWidth 32 (BitVec.ofBool true)).toInt : ℝ) : EReal) = 1
    have : (BitVec.setWidth 32 (BitVec.ofBool true)).toInt = 1 := by decide
    rw [this]; simp
  · rw [if_neg h, decide_eq_false h]
    show (((BitVec.setWidth 32 (BitVec.ofBool false)).toInt : ℝ) : EReal) = 0
    have : (BitVec.setWidth 32 (BitVec.ofBool false)).toInt = 0 := by decide
    rw [this]; simp

/-- The inverse root of the degree at column `p` of block row `h`, as the kernel builds it. -/
theorem pay4_apply (h : Nat) (hh : h < 6) (p : Fin 24576) :
    k0_pay4 (F := Ideal) (BitVec.ofNat 32 h) (ix2 0 p) = dinv (64 * h + p.val / 384) (p.val % 384) := by
  pointwise [k0_pay4]
  have e : IntOp.addi (BitVec.ofNat 32 (p.val / 384)) (Scalar.muli (BitVec.ofNat 32 h) 64#32) = BitVec.ofNat 32 (64 * h + p.val / 384) := by
    show BitVec.ofNat 32 (p.val / 384) + BitVec.ofNat 32 h * BitVec.ofNat 32 64 = _
    rw [← BitVec.ofNat_mul, ← BitVec.ofNat_add]; congr 1; omega
  rw [e, pos_word _ (by omega), pos_word _ (by omega)]
  rfl

/-- The mask of the columns that have a left neighbour. -/
theorem pay5_apply (p : Fin 24576) : k0_pay5 (F := Ideal) (ix2 0 p) = pos (p.val % 384) := by
  pointwise [k0_pay5]
  rw [pos_word _ (by omega)]

/-- The gated weight of the graph convolution. -/
theorem pay2_apply (vy : Vec Ideal S1x1x96 .f32) (vw : Vec Ideal S96x96 .f32) (o c : Fin 96) :
    k0_pay2 (F := Ideal) vy vw (ix2 o c) = (vw (ix2 o c) * vy (ix3 0 0 c) : EReal) := by
  pointwise [k0_pay2]

/-- A block's image flattened over its pixels. -/
theorem pay3_apply (vx : Vec Ideal S1x96x64x384 .f32) (c : Fin 96) (p : Fin 24576) :
    k0_pay3 (F := Ideal) vx (ix2 c p) = vx (ix4 0 c ⟨p.val / 384, by omega⟩ ⟨p.val % 384, by omega⟩) := by
  pointwise [k0_pay3]

/-- A block's linear map times the source weights. -/
theorem pay6_apply (h : Nat) (hh : h < 6) (wy : FVec Ideal S96x96 .f32) (vx : FVec Ideal S96x24576 .f32) (o : Fin 96) (p : Fin 24576) :
    k0_pay6 (F := Ideal) (BitVec.ofNat 32 h) wy vx (ix2 o p)
      = ((∑ c : Fin 96, wy (ix2 o c) * vx (ix2 c p)) * dinv (64 * h + p.val / 384) (p.val % 384) : EReal) := by
  pointwise [k0_pay6]
  rw [pay4_apply h hh]

/-- The halo row's linear map times its weights. -/
theorem pay7_apply (wy : FVec Ideal S96x96 .f32) (vh : Vec Ideal S1x1x96x384 .f32) (o : Fin 96) (j : Fin 384) :
    k0_pay7 (F := Ideal) wy vh (ix2 o j)
      = ((∑ c : Fin 96, wy (ix2 o c) * vh (ix4 0 0 c j)) * Ideal.rsqrt (Ideal.ofBits .f32 0x40000000#32 + pos j.val) : EReal) := by
  pointwise [k0_pay7]
  rw [pos_word _ (by omega)]

/-- The kernel's sum of one block over its pixels. -/
theorem pay1_apply (v : Vec Ideal S1x96x64x384 .f32) (c : Fin 96) :
    k0_pay1 (F := Ideal) v (ix2 0 c) = (∑ i : Fin 64, ∑ j : Fin 384, v (ix4 0 c i j) : EReal) := by
  pointwise [k0_pay1]

/-- The hidden layer of the gate from the channel sums. -/
theorem pay11_apply (v : FVec Ideal S2x1x96 .f32) (w : Vec Ideal S96x6 .f32) (b : Fin 2) (r : Fin 6) :
    k0_pay11 (F := Ideal) v w (ix2 b r) = (max (∑ c : Fin 96, (v (ix3 b 0 c) * ((147456⁻¹ : ℝ) : EReal)) * w (ix2 c r)) 0 : EReal) := by
  pointwise [k0_pay11]
  rw [show (Named.named (F := Ideal) κ "inv_n" 0x36E38E39#32 : Ideal .f32) = ((147456⁻¹ : ℝ) : EReal) from
    IdealRules.named_const.ideal_named_scalar _ _ _ _ rfl]

/-- The gate from the hidden layer. -/
theorem pay12_apply (v : FVec Ideal S2x6 .f32) (w : Vec Ideal S6x96 .f32) (b : Fin 2) (o : Fin 96) :
    k0_pay12 (F := Ideal) v w (ix3 b 0 o) = Ideal.logistic (∑ r : Fin 6, v (ix2 b r) * w (ix2 r o)) := by
  pointwise [k0_pay12]

/-- A block's first contribution to the channel sums. -/
theorem pay9_apply (v : FVec Ideal S1x96 .f32) (c : Fin 96) : k0_pay9 (F := Ideal) v (ix3 0 0 c) = v (ix2 0 c) := by
  pointwise [k0_pay9]

/-- A block's later contribution to the channel sums. -/
theorem pay10_apply (v : FVec Ideal S1x96 .f32) (u : Vec Ideal S1x1x96 .f32) (c : Fin 96) :
    k0_pay10 (F := Ideal) v u (ix3 0 0 c) = (u (ix3 0 0 c) + v (ix2 0 c) : EReal) := by
  pointwise [k0_pay10]

/-- A block row of the linear map, with its source weights: row `r` of block row `h`. -/
def zrow (h : Nat) (vy : Vec Ideal S1x1x96 .f32) (vw : Vec Ideal S96x96 .f32) (vx : Vec Ideal S1x96x64x384 .f32) (o : Fin 96)
    (r : Fin 64) (j : Fin 384) : EReal :=
  (∑ c : Fin 96, (vw (ix2 o c) * vy (ix3 0 0 c) : EReal) * vx (ix4 0 c r j)) * dinv (64 * h + r.val) j.val

/-- The row above a block, from the halo. -/
def hrow (h : Nat) (vy : Vec Ideal S1x1x96 .f32) (vw : Vec Ideal S96x96 .f32) (vh : Vec Ideal S1x1x96x384 .f32) (o : Fin 96)
    (j : Fin 384) : EReal :=
  if h = 0 then 0 else (∑ c : Fin 96, (vw (ix2 o c) * vy (ix3 0 0 c) : EReal) * vh (ix4 0 0 c j)) * Ideal.rsqrt (1 + 1 + pos j.val)

/-- A block's linear map with its source weights, at a flattened pixel. -/
theorem flat_apply (h : Nat) (hh : h < 6) (vy : Vec Ideal S1x1x96 .f32) (vw : Vec Ideal S96x96 .f32) (vx : Vec Ideal S1x96x64x384 .f32)
    (o : Fin 96) (r : Fin 64) (j : Fin 384) (q : Fin 24576) (hq : q.val = r.val * 384 + j.val) :
    k0_pay6 (F := Ideal) (BitVec.ofNat 32 h) (k0_pay2 vy vw) (k0_pay3 vx) (ix2 o q) = zrow h vy vw vx o r j := by
  have e1 : q.val / 384 = r.val := by omega
  have e2 : q.val % 384 = j.val := by omega
  rw [pay6_apply h hh]
  unfold zrow
  rw [e1, e2]
  congr 1
  refine Finset.sum_congr rfl fun c _ => ?_
  rw [pay2_apply, pay3_apply]
  congr 2
  exact congrArg₂ (ix4 0 c) (Fin.ext e1) (Fin.ext e2)

/-- A block of the result, element by element. -/
theorem block_apply (h : Nat) (hh : h < 6) (vy : Vec Ideal S1x1x96 .f32) (vw : Vec Ideal S96x96 .f32) (vx : Vec Ideal S1x96x64x384 .f32)
    (vh : Vec Ideal S1x1x96x384 .f32) (vb : Vec Ideal S1x96 .f32) (o : Fin 96) (r : Fin 64) (j : Fin 384) :
    Cert.Proof.KernelIdeal.outOf (F := Ideal) (BitVec.ofNat 32 h) vy vw vx vh vb (ix4 0 o r j)
      = ((zrow h vy vw vx o r j
          + (if r.val = 0 then hrow h vy vw vh o j else zrow h vy vw vx o ⟨r.val - 1, by omega⟩ j)
          + (if 0 < j.val then zrow h vy vw vx o r (back j) else 0)) * dinv (64 * h + r.val) j.val + vb (ix2 0 o) : EReal) := by
  unfold Cert.Proof.KernelIdeal.outOf
  have hc : Scalar.cmpi .eq (BitVec.ofNat 32 h) 0#32 = BitVec.ofBool (decide (h = 0)) := by
    revert hh; revert h; decide
  rw [hc]
  pointwise [k0_pay8]
  rw [pay4_apply h hh, pay5_apply, flat_apply h hh vy vw vx o r j _ rfl]
  have e1 : (r.val * 384 + j.val) / 384 = r.val := by omega
  have e2 : (r.val * 384 + j.val) % 384 = j.val := by omega
  simp only [e1, e2]
  congr 3
  · congr 1
    by_cases hr : r.val = 0
    · rw [dif_pos (by omega), if_pos hr]
      unfold hrow
      by_cases h0 : h = 0
      · exact (congrFun (if_pos h0) _).trans (if_pos h0).symm
      · refine (congrFun (if_neg h0) _).trans (Eq.trans ?_ (if_neg h0).symm)
        rw [show (⟨r.val * 384 + j.val, by omega⟩ : Fin 384) = j from Fin.ext (by simp [hr]), pay7_apply, two_lit]
        congr 1
        exact Finset.sum_congr rfl fun c _ => by rw [pay2_apply]
    · rw [dif_neg (by omega), if_neg hr]
      exact flat_apply h hh vy vw vx o ⟨r.val - 1, by omega⟩ j _ (by simp only []; omega)
  · by_cases hj : 0 < j.val
    · rw [dif_neg (by omega), if_pos hj]
      rw [show pos j.val = 1 from if_pos hj, mul_one]
      exact flat_apply h hh vy vw vx o r (back j) _ (by simp only []; omega)
    · rw [if_neg hj, show pos j.val = 0 from if_neg hj, mul_zero]

end Cert.Proof.Value
-- ==== Proof.Value.Reads.lean ====
/-
  The blocks the kernel reads and the arrays it is handed, at an index.
-/
module

public import proofs.«01_k».proof.Proof.KernelIdeal.Launch
public import proofs.«01_k».proof.Proof.Value.Spec
public import Idealize.ShloMosaic.Lib.StableHlo.ReadAt
public import Idealize.ShloMosaic.Lib.Claim
public import Idealize.ShloMosaic.Lib.Pipeline.ValueKit

@[expose] public section

set_option maxRecDepth 16384

noncomputable section

namespace Cert.Proof.Value

open Cert.KernelIdeal Cert.KernelIdeal.Gen Idealize.ShloMosaic Cert.Proof.KernelIdeal Idealize.ShloMosaic.TcCoe

/-- An index of a four-axis shape, from its coordinates. -/
theorem idx4_ext {n : Fin 4 → Nat} (k k' : (⟨4, n⟩ : Shape).Idx) (h0 : (k 0).val = (k' 0).val) (h1 : (k 1).val = (k' 1).val)
    (h2 : (k 2).val = (k' 2).val) (h3 : (k 3).val = (k' 3).val) : k = k' := by
  funext a
  match a with
  | ⟨0, _⟩ => exact Fin.ext h0
  | ⟨1, _⟩ => exact Fin.ext h1
  | ⟨2, _⟩ => exact Fin.ext h2
  | ⟨3, _⟩ => exact Fin.ext h3

section
variable (c : Dev nD)

/-- Block `b` of the image, at an index. -/
theorem xval_apply (X : Buf (Elt Ideal) (xM.view.loc (c : Thread nD τ))) (b : Fin 12) (ch : Fin 96) (r : Fin 64) (j : Fin 384) :
    (xval (F := Ideal) c X b) (ix4 0 ch r j) = (X : Img) (ix4 ⟨b.val / 6, by omega⟩ ch ⟨64 * (b.val % 6) + r.val, by omega⟩ j) := by
  refine (View.read_apply (Val := Elt Ideal) (v := (xblk b).view) X (ix4 0 ch r j)).trans ?_
  refine congrArg (X : Img) (idx4_ext _ _ ?_ ?_ ?_ ?_)
  · show b.val / 6 + 1 * 0 = b.val / 6; omega
  · show 0 + 1 * ch.val = ch.val; omega
  · show 64 * (b.val % 6) + 1 * r.val = 64 * (b.val % 6) + r.val; omega
  · show 0 + 1 * j.val = j.val; omega

/-- Halo row `b`, at an index. -/
theorem hval_apply (H : Buf (Elt Ideal) (hM.view.loc (c : Thread nD τ))) (b : Fin 12) (ch : Fin 96) (j : Fin 384) :
    (hval (F := Ideal) c H b) (ix4 0 0 ch j) = (H : (⟨4, ![2, 6, 96, 384]⟩ : Shape).Idx → EReal) (ix4 ⟨b.val / 6, by omega⟩ ⟨b.val % 6, by omega⟩ ch j) := by
  refine (View.read_apply (Val := Elt Ideal) (v := (hblk b).view) H (ix4 0 0 ch j)).trans ?_
  refine congrArg (H : (⟨4, ![2, 6, 96, 384]⟩ : Shape).Idx → EReal) (idx4_ext _ _ ?_ ?_ ?_ ?_)
  · show b.val / 6 + 1 * 0 = b.val / 6; omega
  · show b.val % 6 + 1 * 0 = b.val % 6; omega
  · show 0 + 1 * ch.val = ch.val; omega
  · show 0 + 1 * j.val = j.val; omega

/-- The gate row of block `b`, at a channel. -/
theorem gval_apply (g : FVec Ideal S2x1x96 .f32) (b : Fin 12) (ch : Fin 96) :
    (gval (F := Ideal) c (yM.view.rep g) b) (ix3 0 0 ch) = g (ix3 ⟨b.val / 6, by omega⟩ 0 ch) := by
  show yM.view.readAt (Elt Ideal) (yRect (imgOf b.val)).toLoadRect (yM.view.rep g) (ix3 0 0 ch) = _
  rw [View.readAt_rep]
  refine congrArg g (funext fun a => ?_)
  have hb := b.isLt
  match a with
  | ⟨0, _⟩ => exact Fin.ext (by show b.val / 6 % 2 + 1 * 0 = b.val / 6; omega)
  | ⟨1, _⟩ => rfl
  | ⟨2, _⟩ => exact Fin.ext (by show 0 + 1 * ch.val = ch.val; omega)

/-- A block written whole into the result, at one of its elements. -/
theorem oblk_written (b : Fin 12) (O : Buf (Elt Ideal) (oM.view.loc (c : Thread nD τ))) (w : FVec Ideal S1x96x64x384 .f32) (o : Fin 96) (r : Fin 64) (j : Fin 384) :
    ((oblk b).view.writes (Elt Ideal) O [⟨Rect.whole S1x96x64x384, w⟩] : Img)
      (ix4 ⟨b.val / 6, by omega⟩ o ⟨64 * (b.val % 6) + r.val, by omega⟩ j) = w (ix4 0 o r j) := by
  have e := congrFun (View.read_writes_whole (Val := Elt Ideal) (oblk b).view O w) (ix4 0 o r j)
  generalize (oblk b).view.writes (Elt Ideal) O [⟨Rect.whole S1x96x64x384, w⟩] = W at e ⊢
  have hi : (ix4 ⟨b.val / 6, by omega⟩ o ⟨64 * (b.val % 6) + r.val, by omega⟩ j : S2x96x384x384.Idx) = (oblk b).view.emb (ix4 0 o r j) := by
    refine idx4_ext _ _ ?_ ?_ ?_ ?_
    · show b.val / 6 = b.val / 6 + 1 * 0; omega
    · show o.val = 0 + 1 * o.val; omega
    · show 64 * (b.val % 6) + r.val = 64 * (b.val % 6) + 1 * r.val; omega
    · show j.val = 0 + 1 * j.val; omega
  exact (congrArg (W : Img) hi).trans e

/-- The whole result at an element: its block's value there. -/
theorem OUT_apply (X : Buf (Elt Ideal) (xM.view.loc (c : Thread nD τ))) (H : Buf (Elt Ideal) (hM.view.loc (c : Thread nD τ)))
    (O0 : Buf (Elt Ideal) (oM.view.loc (c : Thread nD τ)))
    (arg4 : Memref sig .tc .vmem S96x96 .f32) (arg5 : Memref sig .tc .vmem S1x96 .f32) (YB) (g4) (g5)
    (b : Fin 2) (o : Fin 96) (h : Fin 6) (r : Fin 64) (j : Fin 384) :
    (OUT (F := Ideal) c X H O0 arg4 arg5 YB g4 g5 : Img) (ix4 b o ⟨64 * h.val + r.val, by omega⟩ j)
      = outVal (F := Ideal) c X H arg4 arg5 YB g4 g5 ⟨6 * b.val + h.val, by omega⟩ (ix4 0 o r j) := by
  have hb : blkOf (ix4 b o ⟨64 * h.val + r.val, by omega⟩ j) = ⟨6 * b.val + h.val, by omega⟩ :=
    Fin.ext (by show 6 * b.val + (64 * h.val + r.val) / 64 = 6 * b.val + h.val; omega)
  have key : ∀ (q : Fin 12) (hq : q = ⟨6 * b.val + h.val, by omega⟩),
      ((oblk q).view.writes (Elt Ideal) O0 [⟨Rect.whole S1x96x64x384, outVal (F := Ideal) c X H arg4 arg5 YB g4 g5 q⟩] : Img)
        (ix4 b o ⟨64 * h.val + r.val, by omega⟩ j) = outVal (F := Ideal) c X H arg4 arg5 YB g4 g5 ⟨6 * b.val + h.val, by omega⟩ (ix4 0 o r j) := by
    rintro q rfl
    refine Eq.trans ?_ (oblk_written c ⟨6 * b.val + h.val, by omega⟩ O0 (outVal (F := Ideal) c X H arg4 arg5 YB g4 g5 ⟨6 * b.val + h.val, by omega⟩) o r j)
    generalize (oblk ⟨6 * b.val + h.val, by omega⟩).view.writes (Elt Ideal) O0
      [⟨Rect.whole S1x96x64x384, outVal (F := Ideal) c X H arg4 arg5 YB g4 g5 ⟨6 * b.val + h.val, by omega⟩⟩] = W
    refine congrArg (W : Img) (idx4_ext _ _ ?_ rfl ?_ rfl)
    · show b.val = (6 * b.val + h.val) / 6; omega
    · show 64 * h.val + r.val = 64 * ((6 * b.val + h.val) % 6) + r.val; omega
  exact key _ hb

end

section
variable (m : (ℓ : Loc nD τ sig) → Buf (Elt Ideal) ℓ) (c : Dev nD)

/-- The halo rows: nothing above the image, and the last row of the block above. -/
theorem halo_apply (b : Fin 2) (k : Fin 6) (ch : Fin 96) (j : Fin 384) :
    (Cert.Proof.KernelIdeal.HA (F := Ideal) m c : (⟨4, ![2, 6, 96, 384]⟩ : Shape).Idx → EReal) (ix4 b k ch j)
      = if k.val = 0 then (0 : EReal) else (m ((c.tc : Thread nD τ).loc main_arg0) : Img) (ix4 b ch ⟨64 * k.val - 1, by omega⟩ j) := by
  show V m c main_call0_v3 (ix4 b k ch j) = _
  unfold V
  after_reads_at
  after_reads_at
  by_cases hk : k.val = 0
  · exact (dif_pos (show k.val < 1 by omega)).trans (if_pos hk).symm
  · refine (dif_neg (show ¬ k.val < 1 by omega)).trans (Eq.trans ?_ (if_neg hk).symm)
    exact congrArg (fun q => (m ((c.tc : Thread nD τ).loc main_arg0) : Img) (ix4 b ch q j))
      (Fin.ext (show 63 + 64 * (k.val - 1) = 64 * k.val - 1 by omega))

theorem at0 (a : Fin 2) : win0_0.index t0_0 a = 0 := by fin_cases a <;> rfl
theorem at1 (a : Fin 2) : win0_1.index t0_0 a = 0 := by fin_cases a <;> rfl
theorem at2 (a : Fin 2) : win0_2.index t0_0 a = 0 := by fin_cases a <;> rfl
theorem at3 (a : Fin 2) : win0_3.index t0_0 a = 0 := by fin_cases a <;> rfl

theorem w1_apply (a : Fin 96) (r : Fin 6) :
    (iblk (F := Ideal) m c 0 t0_0 : (⟨2, ![96, 6]⟩ : Shape).Idx → EReal) (ix2 a r) = (m ((c.tc : Thread nD τ).loc main_arg1) : Mat 6 96) (ix2 r a) := by
  have e : (iblk (F := Ideal) m c 0 t0_0 : (⟨2, ![96, 6]⟩ : Shape).Idx → EReal) (ix2 a r) = (V m c main_call0_v4 : (⟨2, ![96, 6]⟩ : Shape).Idx → EReal) (ix2 a r) := by
    blk_ext [iblk, at0]
  rw [e]
  show V m c main_call0_v4 (ix2 a r) = _
  unfold V
  after_reads_at

theorem w2_apply (r : Fin 6) (a : Fin 96) :
    (iblk (F := Ideal) m c 1 t0_0 : (⟨2, ![6, 96]⟩ : Shape).Idx → EReal) (ix2 r a) = (m ((c.tc : Thread nD τ).loc main_arg2) : Mat 96 6) (ix2 a r) := by
  have e : (iblk (F := Ideal) m c 1 t0_0 : (⟨2, ![6, 96]⟩ : Shape).Idx → EReal) (ix2 r a) = (V m c main_call0_v5 : (⟨2, ![6, 96]⟩ : Shape).Idx → EReal) (ix2 r a) := by
    blk_ext [iblk, at1]
  rw [e]
  show V m c main_call0_v5 (ix2 r a) = _
  unfold V
  after_reads_at

theorem wg_apply (o a : Fin 96) :
    (iblk (F := Ideal) m c 2 t0_0 : (⟨2, ![96, 96]⟩ : Shape).Idx → EReal) (ix2 o a) = (m ((c.tc : Thread nD τ).loc main_arg3) : Mat 96 96) (ix2 o a) := by
  have e : (iblk (F := Ideal) m c 2 t0_0 : (⟨2, ![96, 96]⟩ : Shape).Idx → EReal) (ix2 o a) = (V m c main_arg3 : (⟨2, ![96, 96]⟩ : Shape).Idx → EReal) (ix2 o a) := by
    blk_ext [iblk, at2]
  exact e.trans (congrFun (V_main_arg3 m c) _)

theorem bg_apply (o : Fin 96) :
    (iblk (F := Ideal) m c 3 t0_0 : (⟨2, ![1, 96]⟩ : Shape).Idx → EReal) (ix2 0 o) = (m ((c.tc : Thread nD τ).loc main_arg4) : Vec1 96) (ix1 o) := by
  have e : (iblk (F := Ideal) m c 3 t0_0 : (⟨2, ![1, 96]⟩ : Shape).Idx → EReal) (ix2 0 o) = (V m c main_call0_v6 : (⟨2, ![1, 96]⟩ : Shape).Idx → EReal) (ix2 0 o) := by
    blk_ext [iblk, at3]
  rw [e]
  show V m c main_call0_v6 (ix2 0 o) = _
  unfold V
  after_reads_at

end

end Cert.Proof.Value
-- ==== Proof.Value.Kernel.lean ====
/-
  What the kernel's result array holds, in coordinates: its channel sums, its gate, and each block's elements.
-/
module

public import proofs.«01_k».proof.Proof.Value.Block
public import proofs.«01_k».proof.Proof.Value.Reads

@[expose] public section

set_option maxRecDepth 16384

noncomputable section

namespace Cert.Proof.Value

open Cert.KernelIdeal Cert.KernelIdeal.Gen Idealize.ShloMosaic Cert.Proof.KernelIdeal Idealize.ShloMosaic.TcCoe

/-- The sum of row `n` of a channel, nothing past the last row. -/
def rowSum (x : Img) (b : Fin 2) (ch : Fin 96) (n : Nat) : EReal :=
  if h : n < 384 then ∑ j : Fin 384, x (ix4 b ch ⟨n, h⟩ j) else 0

theorem rowSum_of_lt (x : Img) (b : Fin 2) (ch : Fin 96) (n : Nat) (h : n < 384) : rowSum x b ch n = ∑ j : Fin 384, x (ix4 b ch ⟨n, h⟩ j) := by
  unfold rowSum
  rw [dif_pos h]

/-- A channel's sum is the sum of its rows. -/
theorem total_rows (x : Img) (b : Fin 2) (ch : Fin 96) : total x b ch = ∑ n ∈ Finset.range 384, rowSum x b ch n := by
  rw [Finset.sum_range]
  exact Finset.sum_congr rfl fun i _ => (rowSum_of_lt x b ch i.val i.isLt).symm

section
variable (c : Dev nD)

/-- One block's channel sums are its 64 rows'. -/
theorem block_sum (X : Buf (Elt Ideal) (xM.view.loc (c : Thread nD τ))) (b : Fin 2) (k : Nat) (hk : k < 6) (ch : Fin 96) :
    k0_pay1 (F := Ideal) (xval c X (Ring.bk 12 (6 * b.val + k))) (ix2 0 ch) = ∑ n ∈ Finset.range 64, rowSum (X : Img) b ch (64 * k + n) := by
  rw [pay1_apply, Finset.sum_range]
  have hv : (Ring.bk 12 (6 * b.val + k)).val = 6 * b.val + k := Ring.bk_val (by omega)
  refine Finset.sum_congr rfl fun r _ => ?_
  have hr : 64 * k + r.val < 384 := by have := r.isLt; omega
  refine Eq.trans (Finset.sum_congr rfl fun j _ => ?_) (rowSum_of_lt _ b ch _ hr).symm
  rw [xval_apply]
  refine congrArg (X : Img) (idx4_ext _ _ ?_ rfl ?_ rfl)
  · show (Ring.bk 12 (6 * b.val + k)).val / 6 = b.val; omega
  · show 64 * ((Ring.bk 12 (6 * b.val + k)).val % 6) + r.val = 64 * k + r.val; omega

/-- The running sums after block `k` are those of the rows so far. -/
theorem ySum_apply (X : Buf (Elt Ideal) (xM.view.loc (c : Thread nD τ))) (b : Fin 2) (ch : Fin 96) :
    ∀ k : Nat, k < 6 → ySum (F := Ideal) c X b k (ix3 0 0 ch) = ∑ n ∈ Finset.range (64 * (k + 1)), rowSum (X : Img) b ch n
  | 0, _ => by
    refine (pay9_apply _ ch).trans ((block_sum c X b 0 (by omega) ch).trans ?_)
    simp only [Nat.mul_zero, Nat.zero_add, Nat.mul_one]
  | k + 1, hk => by
    refine (pay10_apply _ _ ch).trans ?_
    rw [block_sum c X b (k + 1) hk ch, ySum_apply X b ch k (by omega), show 64 * (k + 1 + 1) = 64 * (k + 1) + 64 by omega,
      Finset.sum_range_add]

/-- All the channel sums, once every block has been added. -/
theorem yAll_apply (X : Buf (Elt Ideal) (xM.view.loc (c : Thread nD τ))) (b : Fin 2) (ch : Fin 96) :
    yAll (F := Ideal) c X (ix3 b 0 ch) = total (X : Img) b ch := by
  refine Eq.trans ?_ ((ySum_apply c X b ch 5 (by omega)).trans (total_rows _ b ch).symm)
  rfl

/-- The kernel's gate. -/
theorem gates_apply (X : Buf (Elt Ideal) (xM.view.loc (c : Thread nD τ))) (arg2 : Memref sig .tc .vmem S96x6 .f32)
    (arg3 : Memref sig .tc .vmem S6x96 .f32) (v2 : FVec Ideal S96x6 .f32) (v3 : FVec Ideal S6x96 .f32) (w1 : Mat 6 96) (w2 : Mat 96 6)
    (h2 : ∀ a r, v2 (ix2 a r) = w1 (ix2 r a)) (h3 : ∀ r a, v3 (ix2 r a) = w2 (ix2 a r)) (b : Fin 2) (ch : Fin 96) :
    gates (F := Ideal) c X arg2 arg3 (arg2.view.rep v2) (arg3.view.rep v3) (ix3 b 0 ch) = gate (X : Img) w1 w2 b ch := by
  unfold gates gate hidden
  rw [View.read_rep, View.read_rep, pay12_apply]
  refine congrArg Ideal.logistic (Finset.sum_congr rfl fun r _ => ?_)
  rw [pay11_apply, h3]
  refine congrArg (fun q : EReal => max q 0 * w2 (ix2 ch r)) (Finset.sum_congr rfl fun a _ => ?_)
  rw [yAll_apply, h2]

end

/-- A block row is the weighted linear map at its row of the image. -/
theorem zrow_eq (x : Img) (y : Fin 2 → Fin 96 → EReal) (wg : Mat 96 96) (b : Fin 2) (h : Fin 6) (vy : Vec Ideal S1x1x96 .f32)
    (vw : Vec Ideal S96x96 .f32) (vx : Vec Ideal S1x96x64x384 .f32) (hy : ∀ ch, vy (ix3 0 0 ch) = y b ch)
    (hw : ∀ o a, vw (ix2 o a) = wg (ix2 o a))
    (hx : ∀ ch (r : Fin 64) j, vx (ix4 0 ch r j) = x (ix4 b ch ⟨64 * h.val + r.val, by omega⟩ j)) (o : Fin 96) (r : Fin 64) (j : Fin 384) :
    zrow h.val vy vw vx o r j = wlin x y wg b o ⟨64 * h.val + r.val, by omega⟩ j := by
  refine congrArg (fun q : EReal => q * dinv (64 * h.val + r.val) j.val) (Finset.sum_congr rfl fun a _ => ?_)
  rw [hy, hw, hx]

/-- The halo row is the weighted linear map at the row above the block. -/
theorem hrow_eq (x : Img) (y : Fin 2 → Fin 96 → EReal) (wg : Mat 96 96) (b : Fin 2) (h : Fin 6) (h0 : h.val ≠ 0) (vy : Vec Ideal S1x1x96 .f32)
    (vw : Vec Ideal S96x96 .f32) (vh : Vec Ideal S1x1x96x384 .f32) (hy : ∀ ch, vy (ix3 0 0 ch) = y b ch)
    (hw : ∀ o a, vw (ix2 o a) = wg (ix2 o a))
    (hh : ∀ ch j, vh (ix4 0 0 ch j) = if h.val = 0 then (0 : EReal) else x (ix4 b ch ⟨64 * h.val - 1, by omega⟩ j)) (o : Fin 96) (j : Fin 384) :
    hrow h.val vy vw vh o j = wlin x y wg b o ⟨64 * h.val - 1, by omega⟩ j := by
  refine (if_neg h0).trans ?_
  have hp : pos (64 * h.val - 1) = 1 := if_pos (by omega)
  have hd : Ideal.rsqrt (1 + 1 + pos j.val) = dinv (64 * h.val - 1) j.val := by unfold dinv deg; rw [hp]
  rw [hd]
  refine congrArg (fun q : EReal => q * dinv (64 * h.val - 1) j.val) (Finset.sum_congr rfl fun a _ => ?_)
  rw [hy, hw, (hh a j).trans (if_neg h0)]

/-- One block of the result, from what its loads hold. -/
theorem block_out (x : Img) (y : Fin 2 → Fin 96 → EReal) (wg : Mat 96 96) (bg : Vec1 96) (b : Fin 2) (h : Fin 6) (vy : Vec Ideal S1x1x96 .f32)
    (vw : Vec Ideal S96x96 .f32) (vx : Vec Ideal S1x96x64x384 .f32) (vh : Vec Ideal S1x1x96x384 .f32) (vb : Vec Ideal S1x96 .f32)
    (hy : ∀ ch, vy (ix3 0 0 ch) = y b ch) (hw : ∀ o a, vw (ix2 o a) = wg (ix2 o a))
    (hx : ∀ ch (r : Fin 64) j, vx (ix4 0 ch r j) = x (ix4 b ch ⟨64 * h.val + r.val, by omega⟩ j))
    (hh : ∀ ch j, vh (ix4 0 0 ch j) = if h.val = 0 then (0 : EReal) else x (ix4 b ch ⟨64 * h.val - 1, by omega⟩ j))
    (hb : ∀ o, vb (ix2 0 o) = bg (ix1 o)) (o : Fin 96) (r : Fin 64) (j : Fin 384) :
    outOf (F := Ideal) (BitVec.ofNat 32 h.val) vy vw vx vh vb (ix4 0 o r j) = out x y wg bg b o ⟨64 * h.val + r.val, by omega⟩ j := by
  refine (block_apply h.val h.isLt vy vw vx vh vb o r j).trans ?_
  have hz := zrow_eq x y wg b h vy vw vx hy hw hx o
  have up : (if r.val = 0 then hrow h.val vy vw vh o j else zrow h.val vy vw vx o ⟨r.val - 1, by omega⟩ j)
      = if 0 < 64 * h.val + r.val then wlin x y wg b o (back ⟨64 * h.val + r.val, by omega⟩) j else 0 := by
    by_cases hr : r.val = 0
    · refine (if_pos hr).trans ?_
      by_cases h0 : h.val = 0
      · exact (if_pos h0).trans (if_neg (by omega)).symm
      · refine (hrow_eq x y wg b h h0 vy vw vh hy hw hh o j).trans (Eq.trans ?_ (if_pos (by omega)).symm)
        exact congrArg (fun q => wlin x y wg b o q j) (Fin.ext (by show 64 * h.val - 1 = 64 * h.val + r.val - 1; omega))
    · refine (if_neg hr).trans ((hz ⟨r.val - 1, by omega⟩ j).trans (Eq.trans ?_ (if_pos (by omega)).symm))
      exact congrArg (fun q => wlin x y wg b o q j) (Fin.ext (by show 64 * h.val + (r.val - 1) = 64 * h.val + r.val - 1; omega))
  rw [up, hz r j, hz r (back j), hb o]
  rfl

section
variable (m : (ℓ : Loc nD τ sig) → Buf (Elt Ideal) ℓ) (c : Dev nD)

/-- The kernel's image is the first argument. -/
theorem image_eq : (Cert.Proof.KernelIdeal.XA (F := Ideal) m c : Img) = (m ((c.tc : Thread nD τ).loc main_arg0) : Img) := V_main_arg0 m c

/-- The kernel's result at an element of block row `h`. -/
theorem kernel_block (b : Fin 2) (o : Fin 96) (h : Fin 6) (r : Fin 64) (j : Fin 384) :
    (outAt (F := Ideal) m c t0_0 : Img) (ix4 b o ⟨64 * h.val + r.val, by omega⟩ j)
      = out (m ((c.tc : Thread nD τ).loc main_arg0) : Img)
          (gate (m ((c.tc : Thread nD τ).loc main_arg0) : Img) (m ((c.tc : Thread nD τ).loc main_arg1)) (m ((c.tc : Thread nD τ).loc main_arg2)))
          (m ((c.tc : Thread nD τ).loc main_arg3)) (m ((c.tc : Thread nD τ).loc main_arg4)) b o ⟨64 * h.val + r.val, by omega⟩ j := by
  unfold outAt finalOut
  refine (OUT_apply c _ _ _ _ _ _ _ _ b o h r j).trans ?_
  have e6 : (6 * b.val + h.val) % 6 = h.val := by omega
  have ed : (6 * b.val + h.val) / 6 = b.val := by omega
  unfold outVal
  show outOf (F := Ideal) (BitVec.ofNat 32 ((6 * b.val + h.val) % 6)) _ _ _ _ _ _ = _
  rw [e6]
  refine block_out _ _ _ _ b h _ _ _ _ _ ?_ ?_ ?_ ?_ ?_ o r j
  · intro ch
    refine (gval_apply c _ _ ch).trans ?_
    have hb : (⟨(6 * b.val + h.val) / 6, by omega⟩ : Fin 2) = b := Fin.ext ed
    refine (congrArg (fun q => gates (F := Ideal) c (Cert.Proof.KernelIdeal.XA m c) (st0 t0_0) (st1 t0_0) _ _ (ix3 q 0 ch)) hb).trans ?_
    refine (gates_apply c _ _ _ _ _ _ _ (w1_apply m c) (w2_apply m c) b ch).trans ?_
    rw [image_eq]
  · intro o a
    unfold wval
    rw [View.read_rep]
    exact wg_apply m c o a
  · intro ch r j
    refine (xval_apply c _ _ ch r j).trans ((congrFun (image_eq m c) _).trans ?_)
    refine congrArg (m ((c.tc : Thread nD τ).loc main_arg0) : Img) (idx4_ext _ _ ed rfl ?_ rfl)
    show 64 * ((6 * b.val + h.val) % 6) + r.val = 64 * h.val + r.val
    rw [e6]
  · intro ch j
    refine (hval_apply c _ _ ch j).trans (Eq.trans ?_ (halo_apply m c b h ch j))
    exact congrArg (Cert.Proof.KernelIdeal.HA (F := Ideal) m c : (⟨4, ![2, 6, 96, 384]⟩ : Shape).Idx → EReal) (idx4_ext _ _ ed e6 rfl rfl)
  · intro o
    unfold bval
    rw [View.read_rep]
    exact bg_apply m c o

/-- The kernel's result at every element. -/
theorem kernel_value (b : Fin 2) (o : Fin 96) (i j : Fin 384) :
    (outAt (F := Ideal) m c t0_0 : Img) (ix4 b o i j)
      = out (m ((c.tc : Thread nD τ).loc main_arg0) : Img)
          (gate (m ((c.tc : Thread nD τ).loc main_arg0) : Img) (m ((c.tc : Thread nD τ).loc main_arg1)) (m ((c.tc : Thread nD τ).loc main_arg2)))
          (m ((c.tc : Thread nD τ).loc main_arg3)) (m ((c.tc : Thread nD τ).loc main_arg4)) b o i j := by
  have hi : i = ⟨64 * (⟨i.val / 64, by omega⟩ : Fin 6).val + (⟨i.val % 64, by omega⟩ : Fin 64).val, by
      show 64 * (i.val / 64) + i.val % 64 < 384; omega⟩ :=
    Fin.ext (by show i.val = 64 * (i.val / 64) + i.val % 64; omega)
  rw [hi]
  exact kernel_block m c b o _ _ j

end

end Cert.Proof.Value
-- ==== Proof.Value.Edges.lean ====
/-
  The grid graph's edges as the reference lists them: down edges, right edges, self loops. The word at each place of the
  two lists, and which edges end at a pixel.
-/
module

public import proofs.«01_k».proof.Proof.Gen.ReferenceIdeal.Run
public import proofs.«01_k».proof.Proof.Value.Spec
public import Idealize.ShloMosaic.Lib.Routing.OpsPair

@[expose] public section

set_option maxRecDepth 16384

noncomputable section

namespace Cert.Proof.Value

open Cert.ReferenceIdeal Cert.ReferenceIdeal.Gen Idealize.ShloMosaic

/-- The pixels' numbers, as a list and on the grid. -/
abbrev pixels : IVec S147456 32 := iotaInDim S147456 32 0
abbrev grid : IVec S384x384 32 := shapeCast _ pixels shapeCasts_S147456_S384x384

/-- Where the edges start. -/
def rowW : IVec S441600 32 :=
  concatenate S441600 0 [⟨S147072, shapeCast _ (extractStridedSlice S383x384 ![0, 0] grid slices_S384x384_S383x384_0_0) shapeCasts_S383x384_S147072⟩,
    ⟨S147072, shapeCast _ (extractStridedSlice S384x383 ![0, 0] grid slices_S384x384_S384x383_0_0) shapeCasts_S384x383_S147072⟩,
    ⟨S147456, pixels⟩] concatenates_S147072_S147072_S147456_S441600_d0

/-- Where the edges end. -/
def colW : IVec S441600 32 :=
  concatenate S441600 0 [⟨S147072, shapeCast _ (extractStridedSlice S383x384 ![1, 0] grid slices_S384x384_S383x384_1_0) shapeCasts_S383x384_S147072⟩,
    ⟨S147072, shapeCast _ (extractStridedSlice S384x383 ![0, 1] grid slices_S384x384_S384x383_0_1) shapeCasts_S384x383_S147072⟩,
    ⟨S147456, pixels⟩] concatenates_S147072_S147072_S147456_S441600_d0

/-- A list of pixel numbers as a column of indices, a negative one counted from the end. -/
def column (v : IVec S441600 32) : IVec S441600x1 32 :=
  broadcastInDim S441600x1 ![0] bcast_S441600_S441600x1_0
    (select (cmpi .slt v (broadcastInDim S441600 ![] bcast_S_S441600 (constantI S_ 32 0#32)))
      (addi v (broadcastInDim S441600 ![] bcast_S_S441600 (constantI S_ 32 147456#32))) v)

/-- The pixel edge `e` starts at, and the one it ends at. -/
def src (e : Nat) : Nat := if e < 147072 then e else if e < 294144 then 384 * ((e - 147072) / 383) + (e - 147072) % 383 else e - 294144
def dst (e : Nat) : Nat := if e < 147072 then e + 384 else if e < 294144 then 384 * ((e - 147072) / 383) + (e - 147072) % 383 + 1 else e - 294144

theorem src_lt (e : Fin 441600) : src e.val < 147456 := by unfold src; split_ifs <;> omega
theorem dst_lt (e : Fin 441600) : dst e.val < 147456 := by unfold dst; split_ifs <;> omega

/-- The three lists one after the other, at a place. -/
theorem cat_apply (u v : IVec S147072 32) (w : IVec S147456 32) (e : Fin 441600) :
    concatenate S441600 0 [⟨S147072, u⟩, ⟨S147072, v⟩, ⟨S147456, w⟩] concatenates_S147072_S147072_S147456_S441600_d0 (ix1 e)
      = if h : e.val < 147072 then u (ix1 ⟨e.val, h⟩)
        else if h' : e.val - 147072 < 147072 then v (ix1 ⟨e.val - 147072, h'⟩)
        else w (ix1 ⟨e.val - 147072 - 147072, by omega⟩) := by
  pointwise []

theorem down_src (e : Fin 147072) : (shapeCast S147072 (extractStridedSlice S383x384 ![0, 0] grid slices_S384x384_S383x384_0_0)
    shapeCasts_S383x384_S147072 : IVec S147072 32) (ix1 e) = BitVec.ofNat 32 e.val := by
  pointwise []
  exact congrArg (BitVec.ofNat 32) (by omega)

theorem right_src (e : Fin 147072) : (shapeCast S147072 (extractStridedSlice S384x383 ![0, 0] grid slices_S384x384_S384x383_0_0)
    shapeCasts_S384x383_S147072 : IVec S147072 32) (ix1 e) = BitVec.ofNat 32 (384 * (e.val / 383) + e.val % 383) := by
  pointwise []
  exact congrArg (BitVec.ofNat 32) (by omega)

theorem down_dst (e : Fin 147072) : (shapeCast S147072 (extractStridedSlice S383x384 ![1, 0] grid slices_S384x384_S383x384_1_0)
    shapeCasts_S383x384_S147072 : IVec S147072 32) (ix1 e) = BitVec.ofNat 32 (e.val + 384) := by
  pointwise []
  exact congrArg (BitVec.ofNat 32) (by omega)

theorem right_dst (e : Fin 147072) : (shapeCast S147072 (extractStridedSlice S384x383 ![0, 1] grid slices_S384x384_S384x383_0_1)
    shapeCasts_S384x383_S147072 : IVec S147072 32) (ix1 e) = BitVec.ofNat 32 (384 * (e.val / 383) + e.val % 383 + 1) := by
  pointwise []
  exact congrArg (BitVec.ofNat 32) (by omega)

theorem pixels_apply (n : Fin 147456) : pixels (ix1 n) = BitVec.ofNat 32 n.val := by
  pointwise []

/-- The word at place `e` of the list of starts. -/
theorem rowW_apply (e : Fin 441600) : rowW (ix1 e) = BitVec.ofNat 32 (src e.val) := by
  have he := e.isLt
  unfold rowW
  rw [cat_apply]
  unfold src
  by_cases h : e.val < 147072
  · rw [dif_pos h, if_pos h, down_src]
  · rw [dif_neg h, if_neg h]
    by_cases h' : e.val < 294144
    · rw [dif_pos (show e.val - 147072 < 147072 by omega), if_pos h', right_src]
    · rw [dif_neg (show ¬ e.val - 147072 < 147072 by omega), if_neg h', pixels_apply]
      exact congrArg (BitVec.ofNat 32) (Nat.sub_sub _ _ _)

/-- The word at place `e` of the list of ends. -/
theorem colW_apply (e : Fin 441600) : colW (ix1 e) = BitVec.ofNat 32 (dst e.val) := by
  have he := e.isLt
  unfold colW
  rw [cat_apply]
  unfold dst
  by_cases h : e.val < 147072
  · rw [dif_pos h, if_pos h, down_dst]
  · rw [dif_neg h, if_neg h]
    by_cases h' : e.val < 294144
    · rw [dif_pos (show e.val - 147072 < 147072 by omega), if_pos h', right_dst]
    · rw [dif_neg (show ¬ e.val - 147072 < 147072 by omega), if_neg h', pixels_apply]
      exact congrArg (BitVec.ofNat 32) (Nat.sub_sub _ _ _)

/-- A column of pixel numbers, none of them negative, at a place. -/
theorem column_apply (v : IVec S441600 32) (e : Fin 441600) (n : Nat) (hn : n < 147456) (hv : v (ix1 e) = BitVec.ofNat 32 n) :
    column v (ix2 e 0) = BitVec.ofNat 32 n := by
  pointwise [column]
  rw [hv]
  exact Routing.wrap_of_lt _ _ (by rw [BitVec.toNat_ofNat]; omega)

theorem src_column (e : Fin 441600) : column rowW (ix2 e 0) = BitVec.ofNat 32 (src e.val) := column_apply _ e _ (src_lt e) (rowW_apply e)
theorem dst_column (e : Fin 441600) : column colW (ix2 e 0) = BitVec.ofNat 32 (dst e.val) := column_apply _ e _ (dst_lt e) (colW_apply e)

/-- A pixel number read back from its word. -/
theorem toInt_pixel (n : Nat) (hn : n < 147456) : (BitVec.ofNat 32 n).toInt = (n : Int) := by
  rw [BitVec.toInt_eq_toNat_of_lt (by rw [BitVec.toNat_ofNat]; omega), BitVec.toNat_ofNat, Nat.mod_eq_of_lt (by omega)]

/-- A sum over the edges that end at pixel `(i, j)`: the edge from above, the edge from the left, the loop. -/
theorem sum_edges (g : Fin 441600 → EReal) (i j : Fin 384) :
    ∑ e ∈ Finset.univ.filter (fun e : Fin 441600 => dst e.val = 384 * i.val + j.val), g e
      = (if 0 < i.val then g ⟨384 * (i.val - 1) + j.val, by omega⟩ else 0)
        + (if 0 < j.val then g ⟨147072 + (383 * i.val + (j.val - 1)), by omega⟩ else 0)
        + g ⟨294144 + (384 * i.val + j.val), by omega⟩ := by
  have hi := i.isLt
  have hj := j.isLt
  have hmem : ∀ e : Fin 441600, dst e.val = 384 * i.val + j.val ↔ (0 < i.val ∧ e.val = 384 * (i.val - 1) + j.val)
      ∨ (0 < j.val ∧ e.val = 147072 + (383 * i.val + (j.val - 1))) ∨ e.val = 294144 + (384 * i.val + j.val) := by
    intro e
    have he := e.isLt
    unfold dst
    split_ifs <;> omega
  by_cases h0 : 0 < i.val
  · by_cases h1 : 0 < j.val
    · rw [if_pos h0, if_pos h1, add_assoc]
      rw [show Finset.univ.filter (fun e : Fin 441600 => dst e.val = 384 * i.val + j.val)
        = {⟨384 * (i.val - 1) + j.val, by omega⟩, ⟨147072 + (383 * i.val + (j.val - 1)), by omega⟩, ⟨294144 + (384 * i.val + j.val), by omega⟩} from by
          ext e; simp only [Finset.mem_filter, Finset.mem_univ, true_and, Finset.mem_insert, Finset.mem_singleton, hmem, Fin.ext_iff, h0, h1]]
      rw [Finset.sum_insert, Finset.sum_insert, Finset.sum_singleton]
      · simp only [Finset.mem_singleton, Fin.mk.injEq]; omega
      · simp only [Finset.mem_insert, Finset.mem_singleton, Fin.mk.injEq]; omega
    · rw [if_pos h0, if_neg h1, add_zero]
      rw [show Finset.univ.filter (fun e : Fin 441600 => dst e.val = 384 * i.val + j.val)
        = {⟨384 * (i.val - 1) + j.val, by omega⟩, ⟨294144 + (384 * i.val + j.val), by omega⟩} from by
          ext e; simp only [Finset.mem_filter, Finset.mem_univ, true_and, Finset.mem_insert, Finset.mem_singleton, hmem, Fin.ext_iff, h0, h1, false_and, false_or]]
      rw [Finset.sum_insert, Finset.sum_singleton]
      simp only [Finset.mem_singleton, Fin.mk.injEq]; omega
  · by_cases h1 : 0 < j.val
    · rw [if_neg h0, if_pos h1, zero_add]
      rw [show Finset.univ.filter (fun e : Fin 441600 => dst e.val = 384 * i.val + j.val)
        = {⟨147072 + (383 * i.val + (j.val - 1)), by omega⟩, ⟨294144 + (384 * i.val + j.val), by omega⟩} from by
          ext e; simp only [Finset.mem_filter, Finset.mem_univ, true_and, Finset.mem_insert, Finset.mem_singleton, hmem, Fin.ext_iff, h0, h1, false_and, false_or]]
      rw [Finset.sum_insert, Finset.sum_singleton]
      simp only [Finset.mem_singleton, Fin.mk.injEq]; omega
    · rw [if_neg h0, if_neg h1, zero_add, zero_add]
      rw [show Finset.univ.filter (fun e : Fin 441600 => dst e.val = 384 * i.val + j.val)
        = {⟨294144 + (384 * i.val + j.val), by omega⟩} from by
          ext e; simp only [Finset.mem_filter, Finset.mem_univ, true_and, Finset.mem_singleton, hmem, Fin.ext_iff, h0, h1, false_and, false_or]]
      rw [Finset.sum_singleton]

end Cert.Proof.Value
-- ==== Proof.Value.Moves.lean ====
/-
  The reference's takes and its additions along the edges, at an index: a take reads the pixel an edge's word names, and
  an addition sums over the edges whose word is the pixel.
-/
module

public import proofs.«01_k».proof.Proof.Value.Edges
public import Idealize.ShloMosaic.Lib.StableHlo.Predicate

@[expose] public section

set_option maxRecDepth 16384

noncomputable section

namespace Cert.Proof.Value

open Cert.ReferenceIdeal Cert.ReferenceIdeal.Gen Idealize.ShloMosaic

abbrev sc1 := scatter_S147456_S441600x1_S441600_n_0_0_1
abbrev sc3 := scatter_S2x147456x96_S441600x1_S2x441600x96_02_1_1_1
abbrev ga1 := gather_S147456_S441600x1_S441600_n_0_n_n_0_1_1
abbrev ga3 := gather_S2x147456x96_S441600x1_S2x441600x96_02_1_n_n_1_1_2196

theorem ix1_eta {n : Nat} (k : (⟨1, ![n]⟩ : Shape).Idx) : ix1 (k 0) = k := by
  funext a; match a with
  | ⟨0, _⟩ => rfl

theorem ix3_eta {n p q : Nat} (k : (⟨3, ![n, p, q]⟩ : Shape).Idx) : ix3 (k 0) (k 1) (k 2) = k := by
  funext a; match a with
  | ⟨0, _⟩ => rfl
  | ⟨1, _⟩ => rfl
  | ⟨2, _⟩ => rfl

/-- Where the update of edge `e` lands in a list of pixels. -/
theorem lands1 (idx : IVec S441600x1 32) (e : Fin 441600) (n : Fin 147456) :
    sc1.resultIdx? (ix1 e) idx = some (ix1 n) ↔ (idx (ix2 e 0)).toInt = (n.val : Int) := by
  rw [Routing.resultIdx?_eq_some]
  have h0 : sc1.start (ix1 e) idx 0 = (idx (ix2 e 0)).toInt := by
    unfold ScatterDims.start
    rw [dif_pos (show (0 : Fin 1) ∈ sc1.scatterDimsToOperandDims from List.mem_singleton.mpr rfl)]
    refine congrArg (fun k => (idx k).toInt) (funext fun a => ?_)
    match a with
    | ⟨0, _⟩ => rfl
    | ⟨1, _⟩ => rfl
  have w0 : sc1.window (ix1 e) 0 = 0 := rfl
  constructor
  · intro h
    have := h 0
    rw [h0, w0] at this
    simpa using this
  · intro h a
    match a with
    | ⟨0, _⟩ =>
      show sc1.start (ix1 e) idx 0 + (sc1.window (ix1 e) 0 : Int) = (n.val : Int)
      rw [h0, w0, h]; simp

/-- Where the update of edge `e`, image `b`, channel `o` lands in a table of pixels. -/
theorem lands3 (idx : IVec S441600x1 32) (b : Fin 2) (e : Fin 441600) (o : Fin 96) (b' : Fin 2) (n : Fin 147456) (o' : Fin 96) :
    sc3.resultIdx? (ix3 b e o) idx = some (ix3 b' n o') ↔ b = b' ∧ (idx (ix2 e 0)).toInt = (n.val : Int) ∧ o = o' := by
  rw [Routing.resultIdx?_eq_some]
  have h0 : sc3.start (ix3 b e o) idx 0 = 0 := rfl
  have h1 : sc3.start (ix3 b e o) idx 1 = (idx (ix2 e 0)).toInt := by
    unfold ScatterDims.start
    rw [dif_pos (show (1 : Fin 3) ∈ sc3.scatterDimsToOperandDims from List.mem_singleton.mpr rfl)]
    refine congrArg (fun k => (idx k).toInt) (funext fun a => ?_)
    match a with
    | ⟨0, _⟩ => rfl
    | ⟨1, _⟩ => rfl
  have h2 : sc3.start (ix3 b e o) idx 2 = 0 := rfl
  have w0 : sc3.window (ix3 b e o) 0 = b.val := rfl
  have w1 : sc3.window (ix3 b e o) 1 = 0 := rfl
  have w2 : sc3.window (ix3 b e o) 2 = o.val := rfl
  constructor
  · intro h
    have a0 := h 0
    have a1 := h 1
    have a2 := h 2
    rw [h0, w0] at a0
    rw [h1, w1] at a1
    rw [h2, w2] at a2
    change (0 : Int) + (b.val : Int) = (b'.val : Int) at a0
    change (idx (ix2 e 0)).toInt + ((0 : Nat) : Int) = (n.val : Int) at a1
    change (0 : Int) + (o.val : Int) = (o'.val : Int) at a2
    exact ⟨Fin.ext (by omega), by omega, Fin.ext (by omega)⟩
  · rintro ⟨rfl, h, rfl⟩ a
    match a with
    | ⟨0, _⟩ =>
      show sc3.start (ix3 b e o) idx 0 + (sc3.window (ix3 b e o) 0 : Int) = (b.val : Int)
      rw [h0, w0]; simp
    | ⟨1, _⟩ =>
      show sc3.start (ix3 b e o) idx 1 + (sc3.window (ix3 b e o) 1 : Int) = (n.val : Int)
      rw [h1, w1, h]; simp
    | ⟨2, _⟩ =>
      show sc3.start (ix3 b e o) idx 2 + (sc3.window (ix3 b e o) 2 : Int) = (o.val : Int)
      rw [h2, w2]; simp

/-- Adding one number per edge into a list of pixels, at pixel `n`. -/
theorem scatter1_apply (x : FVec Ideal S147456 .f32) (idx : IVec S441600x1 32) (u : FVec Ideal S441600 .f32) (n : Fin 147456) :
    Host.scatterAdd sc1 x idx u (ix1 n)
      = (x (ix1 n) + ∑ e ∈ Finset.univ.filter (fun e : Fin 441600 => (idx (ix2 e 0)).toInt = (n.val : Int)), u (ix1 e) : EReal) := by
  show Ideal.hostScatterAdd sc1 x idx u (ix1 n) = _
  unfold Ideal.hostScatterAdd
  refine congrArg (fun s : EReal => x (ix1 n) + s) ?_
  refine Finset.sum_bij' (fun k _ => k 0) (fun e _ => ix1 e) ?_ ?_ ?_ ?_ ?_
  · intro k hk
    refine Finset.mem_filter.2 ⟨Finset.mem_univ _, (lands1 idx (k 0) n).1 ?_⟩
    exact (congrArg (fun q => sc1.resultIdx? q idx = some (ix1 n)) (ix1_eta k)).mpr (Finset.mem_filter.1 hk).2
  · intro e he
    rw [Finset.mem_filter] at he ⊢
    exact ⟨Finset.mem_univ _, (lands1 idx e n).2 he.2⟩
  · intro k _; exact ix1_eta k
  · intro e _; rfl
  · intro k _; exact congrArg u (ix1_eta k).symm

/-- Adding one row per edge into a table of pixels, at image `b`, pixel `n`, channel `o`. -/
theorem scatter3_apply (x : FVec Ideal S2x147456x96 .f32) (idx : IVec S441600x1 32) (u : FVec Ideal S2x441600x96 .f32)
    (b : Fin 2) (n : Fin 147456) (o : Fin 96) :
    Host.scatterAdd sc3 x idx u (ix3 b n o)
      = (x (ix3 b n o) + ∑ e ∈ Finset.univ.filter (fun e : Fin 441600 => (idx (ix2 e 0)).toInt = (n.val : Int)), u (ix3 b e o) : EReal) := by
  show Ideal.hostScatterAdd sc3 x idx u (ix3 b n o) = _
  unfold Ideal.hostScatterAdd
  refine congrArg (fun s : EReal => x (ix3 b n o) + s) ?_
  have land : ∀ k : S2x441600x96.Idx, sc3.resultIdx? k idx = some (ix3 b n o) → k 0 = b ∧ (idx (ix2 (k 1) 0)).toInt = (n.val : Int) ∧ k 2 = o := by
    intro k hk
    rw [← ix3_eta k] at hk
    exact (lands3 idx (k 0) (k 1) (k 2) b n o).1 hk
  have back : ∀ k : S2x441600x96.Idx, sc3.resultIdx? k idx = some (ix3 b n o) → ix3 b (k 1) o = k := by
    intro k hk
    obtain ⟨h0, _, h2⟩ := land k hk
    rw [← h0, ← h2]; exact ix3_eta k
  refine Finset.sum_bij' (fun k _ => k 1) (fun e _ => ix3 b e o) ?_ ?_ ?_ ?_ ?_
  · intro k hk
    exact Finset.mem_filter.2 ⟨Finset.mem_univ _, (land k (Finset.mem_filter.1 hk).2).2.1⟩
  · intro e he
    rw [Finset.mem_filter] at he ⊢
    exact ⟨Finset.mem_univ _, (lands3 idx b e o b n o).2 ⟨rfl, he.2, rfl⟩⟩
  · intro k hk; exact back k (Finset.mem_filter.1 hk).2
  · intro e _; rfl
  · intro k hk; exact congrArg u (back k (Finset.mem_filter.1 hk).2).symm

/-- The take of a list of pixels at edge `e`, whose word names pixel `n`. -/
theorem gather1_apply (x : FVec Ideal S147456 .f32) (idx : IVec S441600x1 32) (e : Fin 441600) (n : Fin 147456)
    (h : (idx (ix2 e 0)).toInt = (n.val : Int)) : Host.gather ga1 x idx (ix1 e) = x (ix1 n) := by
  unfold Host.gather
  refine congrArg x (funext fun a => Fin.ext ?_)
  match a with
  | ⟨0, _⟩ =>
    show ga1.start (ix1 e) idx 0 + ga1.batchCoord (ix1 e) 0 + ga1.offCoord (ix1 e) 0 = n.val
    rw [show ga1.batchCoord (ix1 e) 0 = 0 from rfl, show ga1.offCoord (ix1 e) 0 = 0 from rfl]
    unfold GatherDims.start
    rw [dif_pos (show (0 : Fin 1) ∈ ga1.startIndexMap from List.mem_singleton.mpr rfl)]
    have hsi : ∀ q, ga1.siIdx (ix1 e) q = ix2 e 0 := by
      intro q
      funext a
      match a with
      | ⟨0, _⟩ => rfl
      | ⟨1, _⟩ => exact Subsingleton.elim (α := Fin 1) _ _
    rw [hsi, h]
    show min ((n.val : Int).toNat) (147456 - 1) + 0 + 0 = n.val
    have := n.isLt
    omega

/-- The take of a table of pixels at image `b`, edge `e`, channel `o`, where the edge's word names pixel `n`. -/
theorem gather3_apply (x : FVec Ideal S2x147456x96 .f32) (idx : IVec S441600x1 32) (b : Fin 2) (e : Fin 441600) (o : Fin 96) (n : Fin 147456)
    (h : (idx (ix2 e 0)).toInt = (n.val : Int)) : Host.gather ga3 x idx (ix3 b e o) = x (ix3 b n o) := by
  unfold Host.gather
  refine congrArg x (funext fun a => Fin.ext ?_)
  match a with
  | ⟨0, _⟩ =>
    show ga3.start (ix3 b e o) idx 0 + ga3.batchCoord (ix3 b e o) 0 + ga3.offCoord (ix3 b e o) 0 = b.val
    rw [show ga3.start (ix3 b e o) idx 0 = 0 from rfl, show ga3.batchCoord (ix3 b e o) 0 = 0 from rfl,
      show ga3.offCoord (ix3 b e o) 0 = b.val from rfl]
    omega
  | ⟨1, _⟩ =>
    show ga3.start (ix3 b e o) idx 1 + ga3.batchCoord (ix3 b e o) 1 + ga3.offCoord (ix3 b e o) 1 = n.val
    rw [show ga3.batchCoord (ix3 b e o) 1 = 0 from rfl, show ga3.offCoord (ix3 b e o) 1 = 0 from rfl]
    unfold GatherDims.start
    rw [dif_pos (show (1 : Fin 3) ∈ ga3.startIndexMap from List.mem_singleton.mpr rfl)]
    have hsi : ∀ q, ga3.siIdx (ix3 b e o) q = ix2 e 0 := by
      intro q
      funext a
      match a with
      | ⟨0, _⟩ => rfl
      | ⟨1, _⟩ => exact Subsingleton.elim (α := Fin 1) _ _
    rw [hsi, h]
    show min ((n.val : Int).toNat) (147456 - 1) + 0 + 0 = n.val
    have := n.isLt
    omega
  | ⟨2, _⟩ =>
    show ga3.start (ix3 b e o) idx 2 + ga3.batchCoord (ix3 b e o) 2 + ga3.offCoord (ix3 b e o) 2 = o.val
    rw [show ga3.start (ix3 b e o) idx 2 = 0 from rfl, show ga3.batchCoord (ix3 b e o) 2 = 0 from rfl,
      show ga3.offCoord (ix3 b e o) 2 = o.val from rfl]
    omega

end Cert.Proof.Value
-- ==== Proof.Value.Reference.lean ====
/-
  What the reference computes, stage by stage at an index, and its result in coordinates.
-/
module

public import proofs.«01_k».proof.Proof.Value.Moves
public import proofs.«01_k».proof.Proof.Value.Consts

@[expose] public section

set_option maxRecDepth 16384

noncomputable section

namespace Cert.Proof.Value

open Cert.ReferenceIdeal Cert.ReferenceIdeal.Gen Idealize.ShloMosaic

/-- The number of edges into each pixel, as the reference counts them. -/
def degR : FVec Ideal S147456 .f32 :=
  Host.scatterAdd sc1 (broadcastInDim S147456 ![] bcast_S_S147456 (constant S_ .f32 0x00000000#32)) (column colW)
    (broadcastInDim S441600 ![] bcast_S_S441600 (constant S_ .f32 0x3F800000#32))

/-- The inverse square roots. -/
def dinvR : FVec Ideal S147456 .f32 := Host.rsqrt degR

/-- The edges' weights. -/
def normR : FVec Ideal S441600 .f32 := mulf (Host.gather ga1 dinvR (column rowW)) (Host.gather ga1 dinvR (column colW))

/-- The gate. -/
def gateR (x : FVec Ideal S2x96x384x384 .f32) (w1 : FVec Ideal S6x96 .f32) (w2 : FVec Ideal S96x6 .f32) : FVec Ideal S2x96 .f32 :=
  Host.divf (broadcastInDim S2x96 ![] bcast_S_S2x96 (constant S_ .f32 0x3F800000#32))
    (addf (broadcastInDim S2x96 ![] bcast_S_S2x96 (constant S_ .f32 0x3F800000#32))
      (Host.exp (Host.negf (Host.dotGeneral dot_S2x6_S6x96_S2x96_1_0_0_1_n_n none
        (maximumf (Host.dotGeneral dot_S2x96_S96x6_S2x6_1_0_0_1_n_n none
            (Host.divf (Host.reduceAdd x (constant S_ .f32 0x00000000#32) reducesTo_S2x96x384x384_S2x96_d2_3 h_S_)
              (broadcastInDim S2x96 ![] bcast_S_S2x96 (constant S_ .f32 0x48100000#32)))
            (transpose S96x6 [1, 0] w1 transposes_S6x96_S96x6_1_0))
          (broadcastInDim S2x6 ![] bcast_S_S2x6 (constant S_ .f32 0x00000000#32)))
        (transpose S6x96 [1, 0] w2 transposes_S96x6_S6x96_1_0)))))

/-- The linear map of the gated image, a row per pixel. -/
def linR (x : FVec Ideal S2x96x384x384 .f32) (y : FVec Ideal S2x96 .f32) (wg : FVec Ideal S96x96 .f32) : FVec Ideal S2x147456x96 .f32 :=
  Host.dotGeneral dot_S2x147456x96_S96x96_S2x147456x96_2_0_01_1_n_n none
    (transpose S2x147456x96 [0, 2, 1] (shapeCast _ (mulf x
      (broadcastInDim S2x96x384x384 ![0, 1, 2, 3] bcast_S2x96x1x1_S2x96x384x384_0_1_2_3
        (broadcastInDim S2x96x1x1 ![0, 1] bcast_S2x96_S2x96x1x1_0_1 y))) shapeCasts_S2x96x384x384_S2x96x147456) transposes_S2x96x147456_S2x147456x96_0_2_1)
    (transpose S96x96 [1, 0] wg transposes_S96x96_S96x96_1_0)

/-- The messages along the edges. -/
def msgR (l : FVec Ideal S2x147456x96 .f32) : FVec Ideal S2x441600x96 .f32 :=
  mulf (Host.gather ga3 l (column rowW))
    (broadcastInDim S2x441600x96 ![0, 1, 2] bcast_S1x441600x1_S2x441600x96_0_1_2
      (broadcastInDim S1x441600x1 ![1, 2] bcast_S441600x1_S1x441600x1_1_2 (broadcastInDim S441600x1 ![0] bcast_S441600_S441600x1_0 normR)))

/-- The messages summed at their ends. -/
def aggR (u : FVec Ideal S2x441600x96 .f32) : FVec Ideal S2x147456x96 .f32 :=
  Host.scatterAdd sc3 (broadcastInDim S2x147456x96 ![1, 2] bcast_S147456x96_S2x147456x96_1_2
    (broadcastInDim S147456x96 ![] bcast_S_S147456x96 (constant S_ .f32 0x00000000#32))) (column colW) u

/-- The result: the sums and the bias, laid out as images. -/
def outR (a : FVec Ideal S2x147456x96 .f32) (bg : FVec Ideal S96 .f32) : FVec Ideal S2x96x384x384 .f32 :=
  shapeCast _ (transpose S2x96x147456 [0, 2, 1] (addf a
    (broadcastInDim S2x147456x96 ![0, 1, 2] bcast_S1x1x96_S2x147456x96_0_1_2
      (broadcastInDim S1x1x96 ![1, 2] bcast_S1x96_S1x1x96_1_2 (broadcastInDim S1x96 ![1] bcast_S96_S1x96_1 bg)))) transposes_S2x147456x96_S2x96x147456_0_2_1)
    shapeCasts_S2x96x147456_S2x96x384x384

/-- The reference's result is its stages put together. -/
theorem result_stages (m : (ℓ : Loc nD τ sig) → Buf (Elt Ideal) ℓ) (c : Dev nD) :
    Cert.ReferenceIdeal.Value.res_main_v84 (F := Ideal) m c
      = outR (aggR (msgR (linR (m ((c.tc : Thread nD τ).loc main_arg0)) (gateR (m ((c.tc : Thread nD τ).loc main_arg0)) (m ((c.tc : Thread nD τ).loc main_arg1)) (m ((c.tc : Thread nD τ).loc main_arg2)))
          (m ((c.tc : Thread nD τ).loc main_arg3))))) (m ((c.tc : Thread nD τ).loc main_arg4)) := rfl

/-- The gate in coordinates. -/
theorem gateR_apply (x : FVec Ideal S2x96x384x384 .f32) (w1 : FVec Ideal S6x96 .f32) (w2 : FVec Ideal S96x6 .f32) (b : Fin 2) (c : Fin 96) :
    gateR x w1 w2 (ix2 b c) = gate x w1 w2 b c := by
  pointwise [gateR]
  unfold gate Ideal.logistic hidden total
  simp only [count_lit, Ideal.div_coe (by norm_num : (147456 : ℝ) ≠ 0), one_div]

/-- The linear map in coordinates. -/
theorem linR_apply (x : FVec Ideal S2x96x384x384 .f32) (y : FVec Ideal S2x96 .f32) (wg : FVec Ideal S96x96 .f32) (b : Fin 2) (o : Fin 96)
    (i j : Fin 384) : linR x y wg (ix3 b ⟨384 * i.val + j.val, by omega⟩ o) = lin x (fun b c => y (ix2 b c)) wg b o i j := by
  pointwise [linR]
  unfold lin
  refine Finset.sum_congr rfl fun c _ => ?_
  rw [mul_assoc, mul_comm, mul_comm (y (ix2 b c))]

/-- A message: the source's row times the edge's weight. -/
theorem msgR_apply (l : FVec Ideal S2x147456x96 .f32) (b : Fin 2) (e : Fin 441600) (o : Fin 96) :
    msgR l (ix3 b e o) = (Host.gather ga3 l (column rowW) (ix3 b e o) * normR (ix1 e) : EReal) := by
  pointwise [msgR]

/-- The result at an element: the pixel's sum and the bias. -/
theorem outR_apply (a : FVec Ideal S2x147456x96 .f32) (bg : FVec Ideal S96 .f32) (b : Fin 2) (o : Fin 96) (i j : Fin 384) :
    outR a bg (ix4 b o i j) = (a (ix3 b ⟨384 * i.val + j.val, by omega⟩ o) + bg (ix1 o) : EReal) := by
  pointwise [outR]
  exact congrArg (fun n => a (ix3 b n o) + bg (ix1 o)) (Fin.ext (show i.val * 384 + j.val = 384 * i.val + j.val by omega))

/-- The edges whose end word is pixel `n` are those that end there. -/
theorem ends_eq (n : Fin 147456) : Finset.univ.filter (fun e : Fin 441600 => (column colW (ix2 e 0)).toInt = (n.val : Int))
    = Finset.univ.filter (fun e : Fin 441600 => dst e.val = n.val) := by
  ext e
  simp only [Finset.mem_filter, Finset.mem_univ, true_and]
  rw [dst_column, toInt_pixel _ (dst_lt e)]
  omega

/-- The number of edges into a pixel. -/
theorem degR_apply (i j : Fin 384) : degR (ix1 ⟨384 * i.val + j.val, by omega⟩) = deg i.val j.val := by
  unfold degR
  rw [scatter1_apply, ends_eq, sum_edges]
  pointwise []
  unfold deg pos
  rw [add_comm _ (1 : EReal), add_assoc]

/-- The inverse square root at a pixel. -/
theorem dinvR_apply (i j : Fin 384) : dinvR (ix1 ⟨384 * i.val + j.val, by omega⟩) = dinv i.val j.val := by
  pointwise [dinvR]
  exact congrArg Ideal.rsqrt (degR_apply i j)

/-- The inverse square root is a nonnegative real. -/
theorem dinv_real (i j : Nat) : 0 ≤ dinv i j ∧ dinv i j ≠ ⊤ := by
  have hp : ∀ n : Nat, ∃ r : ℝ, 0 ≤ r ∧ pos n = (r : EReal) := by
    intro n
    unfold pos
    split_ifs
    · exact ⟨1, by norm_num, rfl⟩
    · exact ⟨0, le_refl _, rfl⟩
  obtain ⟨r, hr, er⟩ := hp i
  obtain ⟨s, hs, es⟩ := hp j
  have hd : deg i j = ((1 + r + s : ℝ) : EReal) := by
    unfold deg; rw [er, es]; push_cast; rfl
  unfold dinv
  rw [hd, Ideal.rsqrt_coe, if_neg (by linarith), if_neg (by linarith)]
  exact ⟨by exact_mod_cast inv_nonneg.2 (Real.sqrt_nonneg _), EReal.coe_ne_top _⟩

/-- The message along an edge from pixel `(i', j')` to pixel `(i, j)`. -/
theorem edge_msg (l : FVec Ideal S2x147456x96 .f32) (b : Fin 2) (e : Fin 441600) (o : Fin 96) (i' j' i j : Fin 384)
    (hs : src e.val = 384 * i'.val + j'.val) (hd : dst e.val = 384 * i.val + j.val) :
    msgR l (ix3 b e o) = (l (ix3 b ⟨384 * i'.val + j'.val, by omega⟩ o) * dinv i'.val j'.val * dinv i.val j.val : EReal) := by
  have es : (column rowW (ix2 e 0)).toInt = (((⟨384 * i'.val + j'.val, by omega⟩ : Fin 147456)).val : Int) := by
    rw [src_column, toInt_pixel _ (src_lt e), hs]
  have ed : (column colW (ix2 e 0)).toInt = (((⟨384 * i.val + j.val, by omega⟩ : Fin 147456)).val : Int) := by
    rw [dst_column, toInt_pixel _ (dst_lt e), hd]
  have hn : normR (ix1 e) = (dinv i'.val j'.val * dinv i.val j.val : EReal) := by
    show (Host.gather ga1 dinvR (column rowW) (ix1 e) * Host.gather ga1 dinvR (column colW) (ix1 e) : EReal) = _
    rw [gather1_apply _ _ _ _ es, gather1_apply _ _ _ _ ed, dinvR_apply, dinvR_apply]
  rw [msgR_apply, gather3_apply _ _ _ _ _ _ es, hn, mul_assoc]

/-- The messages summed at a pixel: its own row, the row above's and the row to the left's, each with its weight. -/
theorem aggR_apply (l : FVec Ideal S2x147456x96 .f32) (b : Fin 2) (o : Fin 96) (i j : Fin 384) :
    aggR (msgR l) (ix3 b ⟨384 * i.val + j.val, by omega⟩ o)
      = ((l (ix3 b ⟨384 * i.val + j.val, by omega⟩ o) * dinv i.val j.val
          + (if 0 < i.val then l (ix3 b ⟨384 * (back i).val + j.val, by omega⟩ o) * dinv (back i).val j.val else 0)
          + (if 0 < j.val then l (ix3 b ⟨384 * i.val + (back j).val, by omega⟩ o) * dinv i.val (back j).val else 0)) * dinv i.val j.val : EReal) := by
  have hi := i.isLt
  have hj := j.isLt
  obtain ⟨d0, d1⟩ := dinv_real i.val j.val
  unfold aggR
  rw [scatter3_apply, ends_eq, sum_edges]
  have z : (broadcastInDim S2x147456x96 ![1, 2] bcast_S147456x96_S2x147456x96_1_2
    (broadcastInDim S147456x96 ![] bcast_S_S147456x96 (constant (F := Ideal) S_ .f32 0x00000000#32))) (ix3 b ⟨384 * i.val + j.val, by omega⟩ o) = (0 : EReal) := by
    pointwise []
  rw [z, zero_add, EReal.right_distrib_of_nonneg_of_ne_top d0 d1, EReal.right_distrib_of_nonneg_of_ne_top d0 d1]
  rw [edge_msg l b ⟨294144 + (384 * i.val + j.val), by omega⟩ o i j i j
    (by unfold src; rw [if_neg (by simp only []; omega), if_neg (by simp only []; omega)]; simp only []; omega)
    (by unfold dst; rw [if_neg (by simp only []; omega), if_neg (by simp only []; omega)]; simp only []; omega)]
  rw [add_comm, ← add_assoc]
  refine congrArg₂ (· + ·) (congrArg₂ (· + ·) rfl ?_) ?_
  · by_cases h : 0 < i.val
    · rw [if_pos h, if_pos h]
      exact edge_msg l b _ o (back i) j i j
        (by unfold src; rw [if_pos (by simp only []; omega)])
        (by unfold dst; rw [if_pos (by simp only []; omega)]; simp only []; omega)
    · rw [if_neg h, if_neg h, zero_mul]
  · by_cases h : 0 < j.val
    · rw [if_pos h, if_pos h]
      exact edge_msg l b _ o i (back j) i j
        (by unfold src; rw [if_neg (by simp only []; omega), if_pos (by simp only []; omega)]; simp only []; omega)
        (by unfold dst; rw [if_neg (by simp only []; omega), if_pos (by simp only []; omega)]; simp only []; omega)
    · rw [if_neg h, if_neg h, zero_mul]

/-- The reference's result, element by element. -/
theorem reference_value (m : (ℓ : Loc nD τ sig) → Buf (Elt Ideal) ℓ) (c₀ : Dev nD) (b : Fin 2) (o : Fin 96) (i j : Fin 384) :
    (Cert.ReferenceIdeal.Value.res_main_v84 (F := Ideal) m c₀ : Img) (ix4 b o i j)
      = out (m ((c₀.tc : Thread nD τ).loc main_arg0))
          (gate (m ((c₀.tc : Thread nD τ).loc main_arg0)) (m ((c₀.tc : Thread nD τ).loc main_arg1)) (m ((c₀.tc : Thread nD τ).loc main_arg2)))
          (m ((c₀.tc : Thread nD τ).loc main_arg3)) (m ((c₀.tc : Thread nD τ).loc main_arg4)) b o i j := by
  refine (congrFun (result_stages m c₀) _).trans ?_
  refine (outR_apply _ _ b o i j).trans ?_
  have hg : (fun b c => gateR (m ((c₀.tc : Thread nD τ).loc main_arg0)) (m ((c₀.tc : Thread nD τ).loc main_arg1)) (m ((c₀.tc : Thread nD τ).loc main_arg2)) (ix2 b c))
      = gate (m ((c₀.tc : Thread nD τ).loc main_arg0)) (m ((c₀.tc : Thread nD τ).loc main_arg1)) (m ((c₀.tc : Thread nD τ).loc main_arg2)) :=
    funext fun b => funext fun c => gateR_apply _ _ _ b c
  rw [aggR_apply, linR_apply, linR_apply _ _ _ b o (back i) j, linR_apply _ _ _ b o i (back j), hg]
  rfl

end Cert.Proof.Value
-- ==== Proof.Value.Equation.lean ====
/-
  Over the reals extended with infinities, the kernel and the reference compute the same array from the same arguments.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Value.Kernel
public import proofs.«01_k».proof.Proof.Value.Reference

@[expose] public section

noncomputable section

namespace Cert.Proof.Value

open Idealize.ShloMosaic

/-- An index of the result is its four coordinates. -/
theorem img_eta (k : (⟨4, ![2, 96, 384, 384]⟩ : Shape).Idx) : ix4 (k 0) (k 1) (k 2) (k 3) = k := idx4_ext _ _ rfl rfl rfl rfl

/-- From equal arguments the two results agree at every element. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v84 (F := Ideal) m' c : Img)
      = (Cert.Proof.KernelIdeal.outAt (F := Ideal) m c Cert.KernelIdeal.Gen.t0_0 : Img) := by
  funext k
  rw [← img_eta k]
  refine (reference_value m' c (k 0) (k 1) (k 2) (k 3)).trans (Eq.trans ?_ (kernel_value m c (k 0) (k 1) (k 2) (k 3)).symm)
  rw [h0, h1, h2, h3, h4]

/-- The kernel and the reference end with the same result, each leaving its arguments as they were. -/
theorem algebraic : Cert.algebraic_KernelIdeal_ReferenceIdeal := fun m g m' g' _ h =>
  ⟨fun c => Cert.Proof.KernelIdeal.outAt (F := Ideal) m c Cert.KernelIdeal.Gen.t0_0,
    (θ_run Cert.KernelIdeal.defs _ _).mono
      (fun _ e c => ⟨(e c).1, (e c).2.1, (e c).2.2.1, (e c).2.2.2.1, (e c).2.2.2.2.1, (e c).2.2.2.2.2.1⟩)
      (Cert.Proof.KernelIdeal.run_end (F := Ideal) m g),
    (θ_run Cert.ReferenceIdeal.defs _ _).mono
      (fun _ e c => ⟨(e c).1.trans (results_agree m m' c (h c).1 (h c).2.1 (h c).2.2.1 (h c).2.2.2.1 (h c).2.2.2.2), (e c).2⟩)
      (Cert.ReferenceIdeal.Value.run (F := Ideal) m' g')⟩

end Cert.Proof.Value
-- ==== Proof.lean ====
/-
  The proof of `Cert.Claim`: the three frames and the named constant (Proof/Frames.lean), and the equality of the kernel's
  and the reference's results (Proof/Value/Equation.lean).
-/
module

public import proofs.«01_k».proof.Defs
public import proofs.«01_k».proof.Proof.Frames
public import proofs.«01_k».proof.Proof.Value.Equation

@[expose] public section

noncomputable section

namespace Cert.Proof

/-- Everything the certificate claims. -/
theorem claim : Cert.Claim :=
  ⟨Cert.Kernel.Gen.facts, Cert.KernelIdeal.Gen.facts, Cert.ReferenceIdeal.Gen.facts, frame_p, frame_pi, frame_ri, preserves, Value.algebraic⟩

end Cert.Proof
